-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2 = (fun _ => 1#1)

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2 = (fun _ => 1#1)

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_distances_pre_regular [hKernelIdeal : Cert.KernelIdeal.Facts] [hReferenceIdeal : Cert.ReferenceIdeal.Facts] [hPre_regular : Cert.Pre_regular.Facts] [hOn_distances : Cert.On_distances.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v68)) (v2 : (c : Dev Cert.KernelIdeal.nD) → Buf (Elt Ideal) ((c.tc : Thread Cert.KernelIdeal.nD Cert.KernelIdeal.τ).loc Cert.KernelIdeal.main_v72)) (v3 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨0, ![]⟩ : Shape).Idx, (Cert.On_distances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v65) i = v0 c i)
          ∧ (∀ i : (⟨0, ![]⟩ : Shape).Idx, (Cert.On_distances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v68) i = v1 c i)
          ∧ (∀ i : (⟨0, ![]⟩ : Shape).Idx, (Cert.On_distances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.KernelIdeal.nD Cert.KernelIdeal.τ).loc Cert.KernelIdeal.main_v72) i = v2 c i)
          ∧ (∀ i : (⟨0, ![]⟩ : Shape).Idx, (Cert.On_distances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 i = 1#1 → r.2.mem ((c.tc : Thread Cert.KernelIdeal.nD Cert.KernelIdeal.τ).loc Cert.KernelIdeal.main_v76) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨0, ![]⟩ : Shape).Idx, (Cert.On_distances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v302) i = v0 c i)
          ∧ (∀ i : (⟨0, ![]⟩ : Shape).Idx, (Cert.On_distances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v309) i = v1 c i)
          ∧ (∀ i : (⟨0, ![]⟩ : Shape).Idx, (Cert.On_distances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.ReferenceIdeal.nD Cert.ReferenceIdeal.τ).loc Cert.ReferenceIdeal.main_v316) i = v2 c i)
          ∧ (∀ i : (⟨0, ![]⟩ : Shape).Idx, (Cert.On_distances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 i = 1#1 → r.2.mem ((c.tc : Thread Cert.ReferenceIdeal.nD Cert.ReferenceIdeal.τ).loc Cert.ReferenceIdeal.main_v323) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v68)) (v2 : (c : Dev Cert.KernelIdeal.nD) → Buf (Elt Ideal) ((c.tc : Thread Cert.KernelIdeal.nD Cert.KernelIdeal.τ).loc Cert.KernelIdeal.main_v72)) (v3 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_v72) = v2 c
          ∧ r.2.mem ((c.tc : Thread Cert.KernelIdeal.nD Cert.KernelIdeal.τ).loc Cert.KernelIdeal.main_v76) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v302) = v0 c
          ∧ r.2.mem ((c.tc : Thread Cert.ReferenceIdeal.nD Cert.ReferenceIdeal.τ).loc Cert.ReferenceIdeal.main_v309) = v1 c
          ∧ r.2.mem ((c.tc : Thread Cert.ReferenceIdeal.nD Cert.ReferenceIdeal.τ).loc Cert.ReferenceIdeal.main_v316) = v2 c
          ∧ r.2.mem ((c.tc : Thread Cert.ReferenceIdeal.nD Cert.ReferenceIdeal.τ).loc Cert.ReferenceIdeal.main_v323) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_regular : Cert.Pre_regular.Facts) (hPre_separated : Cert.Pre_separated.Facts) (hOn_distances : Cert.On_distances.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_KernelIdeal_pre_separated (hKernelIdeal := hKernelIdeal) (hPre_separated := hPre_separated)
    ∧ quiescent_ReferenceIdeal (hReferenceIdeal := hReferenceIdeal)
    ∧ quiescent_ReferenceIdeal_pre_regular (hReferenceIdeal := hReferenceIdeal) (hPre_regular := hPre_regular)
    ∧ quiescent_ReferenceIdeal_pre_separated (hReferenceIdeal := hReferenceIdeal) (hPre_separated := hPre_separated)
    ∧ preserves_Kernel_KernelIdeal
    ∧ algebraic_KernelIdeal_ReferenceIdeal_on_distances_pre_regular (hKernelIdeal := hKernelIdeal) (hReferenceIdeal := hReferenceIdeal) (hPre_regular := hPre_regular) (hOn_distances := hOn_distances)
    ∧ algebraic_KernelIdeal_ReferenceIdeal_pre_separated (hKernelIdeal := hKernelIdeal) (hReferenceIdeal := hReferenceIdeal) (hPre_separated := hPre_separated)
-- ==== On_distances.lean ====
abbrev S2048x512 : Shape := ⟨2, ![2048, 512]⟩
abbrev S2048 : Shape := ⟨1, ![2048]⟩
abbrev S_ : Shape := ⟨0, ![]⟩

class Facts : Prop where

variable [Facts]

def fn {F : FTy → Type} [FloatOps F] (main_arg0 : FVec F S2048x512 .f32) (main_arg1 : IVec S2048 32) : IVec S_ 1 × IVec S_ 1 × IVec S_ 1 × IVec S_ 1 :=
  let main_c : IVec S_ 1 := constantI S_ 1 0#1
  let main_c_0 : IVec S_ 1 := constantI S_ 1 0#1
  let main_c_1 : IVec S_ 1 := constantI S_ 1 1#1
  let main_c_2 : IVec S_ 1 := constantI S_ 1 1#1
  (main_c, main_c_0, main_c_1, main_c_2)
-- ==== Pre_regular.lean ====
abbrev S2048x512 : Shape := ⟨2, ![2048, 512]⟩
abbrev S2048 : Shape := ⟨1, ![2048]⟩
abbrev S128 : Shape := ⟨1, ![128]⟩
abbrev S_ : Shape := ⟨0, ![]⟩
abbrev S128x1 : Shape := ⟨2, ![128, 1]⟩
abbrev S2048x128 : Shape := ⟨2, ![2048, 128]⟩
abbrev S2048x1 : Shape := ⟨2, ![2048, 1]⟩

class Facts : Prop where
  bcast_S_S2048 : S_.BroadcastsInDim S2048 (![] : Fin 0 → Fin S2048.rank)
  bcast_S_S128 : S_.BroadcastsInDim S128 (![] : Fin 0 → Fin S128.rank)
  bcast_S128_S128x1_0 : S128.BroadcastsInDim S128x1 (![0] : Fin 1 → Fin S128x1.rank)
  reducesTo_S2048x128_S2048_d1 : S2048x128.ReducesTo [1] S2048
  h_S_ : 0 < S_.numel
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  bcast_S_S2048x1 : S_.BroadcastsInDim S2048x1 (![] : Fin 0 → Fin S2048x1.rank)
  gather_S2048x512_S128x1_S2048x128_0_1_n_n_1_1_20481_wf : GatherDims.WF S2048x512 S128x1 S2048x128 [0] [1] [] [1] [] 1 ![2048, 1]

variable [Facts]

def gather_S2048x512_S128x1_S2048x128_0_1_n_n_1_1_20481 : GatherDims S2048x512 S128x1 S2048x128 where
  offsetDims := [0]
  collapsedSliceDims := [1]
  operandBatchingDims := []
  startIndicesBatchingDims := []
  startIndexMap := [1]
  indexVectorDim := 1
  sliceSizes := ![2048, 1]
  wf := gather_S2048x512_S128x1_S2048x128_0_1_n_n_1_1_20481_wf

noncomputable abbrev lit0 : Fin 128 → BitVec 32 := fun
  | 0 => 370#32 | 1 => 26#32 | 2 => 153#32 | 3 => 116#32 | 4 => 366#32 | 5 => 378#32 | 6 => 331#32 | 7 => 67#32
  | 8 => 475#32 | 9 => 256#32 | 10 => 208#32 | 11 => 232#32 | 12 => 369#32 | 13 => 165#32 | 14 => 502#32 | 15 => 380#32
  | 16 => 131#32 | 17 => 429#32 | 18 => 125#32 | 19 => 317#32 | 20 => 24#32 | 21 => 372#32 | 22 => 216#32 | 23 => 285#32
  | 24 => 56#32 | 25 => 17#32 | 26 => 73#32 | 27 => 186#32 | 28 => 134#32 | 29 => 103#32 | 30 => 295#32 | 31 => 98#32
  | 32 => 192#32 | 33 => 506#32 | 34 => 478#32 | 35 => 318#32 | 36 => 446#32 | 37 => 203#32 | 38 => 44#32 | 39 => 335#32
  | 40 => 62#32 | 41 => 188#32 | 42 => 100#32 | 43 => 488#32 | 44 => 68#32 | 45 => 371#32 | 46 => 157#32 | 47 => 283#32
  | 48 => 90#32 | 49 => 84#32 | 50 => 109#32 | 51 => 269#32 | 52 => 262#32 | 53 => 118#32 | 54 => 27#32 | 55 => 297#32
  | 56 => 127#32 | 57 => 136#32 | 58 => 450#32 | 59 => 64#32 | 60 => 364#32 | 61 => 58#32 | 62 => 129#32 | 63 => 108#32
  | 64 => 139#32 | 65 => 205#32 | 66 => 1#32 | 67 => 237#32 | 68 => 448#32 | 69 => 28#32 | 70 => 263#32 | 71 => 219#32
  | 72 => 462#32 | 73 => 511#32 | 74 => 174#32 | 75 => 469#32 | 76 => 440#32 | 77 => 403#32 | 78 => 345#32 | 79 => 354#32
  | 80 => 196#32 | 81 => 508#32 | 82 => 501#32 | 83 => 415#32 | 84 => 376#32 | 85 => 15#32 | 86 => 341#32 | 87 => 259#32
  | 88 => 307#32 | 89 => 184#32 | 90 => 254#32 | 91 => 195#32 | 92 => 359#32 | 93 => 177#32 | 94 => 348#32 | 95 => 213#32
  | 96 => 292#32 | 97 => 130#32 | 98 => 291#32 | 99 => 105#32 | 100 => 146#32 | 101 => 22#32 | 102 => 238#32 | 103 => 453#32
  | 104 => 319#32 | 105 => 444#32 | 106 => 233#32 | 107 => 14#32 | 108 => 302#32 | 109 => 211#32 | 110 => 231#32 | 111 => 340#32
  | 112 => 167#32 | 113 => 329#32 | 114 => 236#32 | 115 => 379#32 | 116 => 493#32 | 117 => 176#32 | 118 => 476#32 | 119 => 150#32
  | 120 => 306#32 | 121 => 311#32 | 122 => 43#32 | 123 => 365#32 | 124 => 91#32 | 125 => 447#32 | 126 => 164#32 | 127 => 481#32
  | _ => 0#32

noncomputable abbrev lit1 : Fin 128 → BitVec 32 := fun
  | 0 => 235#32 | 1 => 480#32 | 2 => 38#32 | 3 => 303#32 | 4 => 2#32 | 5 => 387#32 | 6 => 420#32 | 7 => 53#32
  | 8 => 383#32 | 9 => 137#32 | 10 => 390#32 | 11 => 491#32 | 12 => 117#32 | 13 => 199#32 | 14 => 393#32 | 15 => 93#32
  | 16 => 247#32 | 17 => 142#32 | 18 => 210#32 | 19 => 52#32 | 20 => 442#32 | 21 => 10#32 | 22 => 4#32 | 23 => 168#32
  | 24 => 39#32 | 25 => 352#32 | 26 => 88#32 | 27 => 289#32 | 28 => 34#32 | 29 => 65#32 | 30 => 284#32 | 31 => 115#32
  | 32 => 70#32 | 33 => 5#32 | 34 => 287#32 | 35 => 160#32 | 36 => 101#32 | 37 => 121#32 | 38 => 281#32 | 39 => 439#32
  | 40 => 487#32 | 41 => 77#32 | 42 => 473#32 | 43 => 274#32 | 44 => 498#32 | 45 => 30#32 | 46 => 202#32 | 47 => 25#32
  | 48 => 156#32 | 49 => 206#32 | 50 => 277#32 | 51 => 270#32 | 52 => 187#32 | 53 => 54#32 | 54 => 201#32 | 55 => 80#32
  | 56 => 194#32 | 57 => 173#32 | 58 => 221#32 | 59 => 3#32 | 60 => 503#32 | 61 => 185#32 | 62 => 21#32 | 63 => 251#32
  | 64 => 454#32 | 65 => 485#32 | 66 => 400#32 | 67 => 12#32 | 68 => 119#32 | 69 => 490#32 | 70 => 83#32 | 71 => 126#32
  | 72 => 9#32 | 73 => 323#32 | 74 => 193#32 | 75 => 351#32 | 76 => 504#32 | 77 => 367#32 | 78 => 135#32 | 79 => 253#32
  | 80 => 265#32 | 81 => 220#32 | 82 => 381#32 | 83 => 389#32 | 84 => 362#32 | 85 => 356#32 | 86 => 330#32 | 87 => 432#32
  | 88 => 467#32 | 89 => 397#32 | 90 => 484#32 | 91 => 225#32 | 92 => 299#32 | 93 => 427#32 | 94 => 346#32 | 95 => 385#32
  | 96 => 505#32 | 97 => 145#32 | 98 => 172#32 | 99 => 224#32 | 100 => 463#32 | 101 => 326#32 | 102 => 114#32 | 103 => 417#32
  | 104 => 57#32 | 105 => 468#32 | 106 => 264#32 | 107 => 85#32 | 108 => 178#32 | 109 => 49#32 | 110 => 152#32 | 111 => 438#32
  | 112 => 333#32 | 113 => 355#32 | 114 => 212#32 | 115 => 106#32 | 116 => 191#32 | 117 => 314#32 | 118 => 79#32 | 119 => 255#32
  | 120 => 33#32 | 121 => 474#32 | 122 => 339#32 | 123 => 396#32 | 124 => 228#32 | 125 => 242#32 | 126 => 151#32 | 127 => 288#32
  | _ => 0#32

noncomputable abbrev lit2 : Fin 128 → BitVec 32 := fun
  | 0 => 235#32 | 1 => 480#32 | 2 => 38#32 | 3 => 303#32 | 4 => 2#32 | 5 => 387#32 | 6 => 420#32 | 7 => 53#32
  | 8 => 383#32 | 9 => 137#32 | 10 => 390#32 | 11 => 491#32 | 12 => 117#32 | 13 => 199#32 | 14 => 393#32 | 15 => 93#32
  | 16 => 247#32 | 17 => 142#32 | 18 => 210#32 | 19 => 52#32 | 20 => 442#32 | 21 => 10#32 | 22 => 4#32 | 23 => 168#32
  | 24 => 39#32 | 25 => 352#32 | 26 => 88#32 | 27 => 289#32 | 28 => 34#32 | 29 => 65#32 | 30 => 284#32 | 31 => 115#32
  | 32 => 70#32 | 33 => 5#32 | 34 => 287#32 | 35 => 160#32 | 36 => 101#32 | 37 => 121#32 | 38 => 281#32 | 39 => 439#32
  | 40 => 487#32 | 41 => 77#32 | 42 => 473#32 | 43 => 274#32 | 44 => 498#32 | 45 => 30#32 | 46 => 202#32 | 47 => 25#32
  | 48 => 156#32 | 49 => 206#32 | 50 => 277#32 | 51 => 270#32 | 52 => 187#32 | 53 => 54#32 | 54 => 201#32 | 55 => 80#32
  | 56 => 194#32 | 57 => 173#32 | 58 => 221#32 | 59 => 3#32 | 60 => 503#32 | 61 => 185#32 | 62 => 21#32 | 63 => 251#32
  | 64 => 454#32 | 65 => 485#32 | 66 => 400#32 | 67 => 12#32 | 68 => 119#32 | 69 => 490#32 | 70 => 83#32 | 71 => 126#32
  | 72 => 9#32 | 73 => 323#32 | 74 => 193#32 | 75 => 351#32 | 76 => 504#32 | 77 => 367#32 | 78 => 135#32 | 79 => 253#32
  | 80 => 265#32 | 81 => 220#32 | 82 => 381#32 | 83 => 389#32 | 84 => 362#32 | 85 => 356#32 | 86 => 330#32 | 87 => 432#32
  | 88 => 467#32 | 89 => 397#32 | 90 => 484#32 | 91 => 225#32 | 92 => 299#32 | 93 => 427#32 | 94 => 346#32 | 95 => 385#32
  | 96 => 505#32 | 97 => 145#32 | 98 => 172#32 | 99 => 224#32 | 100 => 463#32 | 101 => 326#32 | 102 => 114#32 | 103 => 417#32
  | 104 => 57#32 | 105 => 468#32 | 106 => 264#32 | 107 => 85#32 | 108 => 178#32 | 109 => 49#32 | 110 => 152#32 | 111 => 438#32
  | 112 => 333#32 | 113 => 355#32 | 114 => 212#32 | 115 => 106#32 | 116 => 191#32 | 117 => 314#32 | 118 => 79#32 | 119 => 255#32
  | 120 => 33#32 | 121 => 474#32 | 122 => 339#32 | 123 => 396#32 | 124 => 228#32 | 125 => 242#32 | 126 => 151#32 | 127 => 288#32
  | _ => 0#32

noncomputable abbrev lit3 : Fin 128 → BitVec 32 := fun
  | 0 => 235#32 | 1 => 480#32 | 2 => 38#32 | 3 => 303#32 | 4 => 2#32 | 5 => 387#32 | 6 => 420#32 | 7 => 53#32
  | 8 => 383#32 | 9 => 137#32 | 10 => 390#32 | 11 => 491#32 | 12 => 117#32 | 13 => 199#32 | 14 => 393#32 | 15 => 93#32
  | 16 => 247#32 | 17 => 142#32 | 18 => 210#32 | 19 => 52#32 | 20 => 442#32 | 21 => 10#32 | 22 => 4#32 | 23 => 168#32
  | 24 => 39#32 | 25 => 352#32 | 26 => 88#32 | 27 => 289#32 | 28 => 34#32 | 29 => 65#32 | 30 => 284#32 | 31 => 115#32
  | 32 => 70#32 | 33 => 5#32 | 34 => 287#32 | 35 => 160#32 | 36 => 101#32 | 37 => 121#32 | 38 => 281#32 | 39 => 439#32
  | 40 => 487#32 | 41 => 77#32 | 42 => 473#32 | 43 => 274#32 | 44 => 498#32 | 45 => 30#32 | 46 => 202#32 | 47 => 25#32
  | 48 => 156#32 | 49 => 206#32 | 50 => 277#32 | 51 => 270#32 | 52 => 187#32 | 53 => 54#32 | 54 => 201#32 | 55 => 80#32
  | 56 => 194#32 | 57 => 173#32 | 58 => 221#32 | 59 => 3#32 | 60 => 503#32 | 61 => 185#32 | 62 => 21#32 | 63 => 251#32
  | 64 => 454#32 | 65 => 485#32 | 66 => 400#32 | 67 => 12#32 | 68 => 119#32 | 69 => 490#32 | 70 => 83#32 | 71 => 126#32
  | 72 => 9#32 | 73 => 323#32 | 74 => 193#32 | 75 => 351#32 | 76 => 504#32 | 77 => 367#32 | 78 => 135#32 | 79 => 253#32
  | 80 => 265#32 | 81 => 220#32 | 82 => 381#32 | 83 => 389#32 | 84 => 362#32 | 85 => 356#32 | 86 => 330#32 | 87 => 432#32
  | 88 => 467#32 | 89 => 397#32 | 90 => 484#32 | 91 => 225#32 | 92 => 299#32 | 93 => 427#32 | 94 => 346#32 | 95 => 385#32
  | 96 => 505#32 | 97 => 145#32 | 98 => 172#32 | 99 => 224#32 | 100 => 463#32 | 101 => 326#32 | 102 => 114#32 | 103 => 417#32
  | 104 => 57#32 | 105 => 468#32 | 106 => 264#32 | 107 => 85#32 | 108 => 178#32 | 109 => 49#32 | 110 => 152#32 | 111 => 438#32
  | 112 => 333#32 | 113 => 355#32 | 114 => 212#32 | 115 => 106#32 | 116 => 191#32 | 117 => 314#32 | 118 => 79#32 | 119 => 255#32
  | 120 => 33#32 | 121 => 474#32 | 122 => 339#32 | 123 => 396#32 | 124 => 228#32 | 125 => 242#32 | 126 => 151#32 | 127 => 288#32
  | _ => 0#32

def fn_norm {F : FTy → Type} [FloatOps F] (arg0 : FVec F S2048x128 .f32) : FVec F S2048x1 .f32 :=
  let v0 : FVec F S2048x128 .f32 := mulf arg0 arg0
  let cst : FVec F S_ .f32 := constant S_ .f32 0x00000000#32
  let v1 : FVec F S2048 .f32 := (fun x v => Host.reduceAdd x v reducesTo_S2048x128_S2048_d1 h_S_) v0 cst
  let v2 : FVec F S2048x1 .f32 := broadcastInDim S2048x1 ![0] bcast_S2048_S2048x1_0 v1
  let v3 : FVec F S2048x1 .f32 := Host.sqrt v2
  v3

def fn_part2 {F : FTy → Type} [FloatOps F] (main_arg0 : FVec F S2048x512 .f32) (main_c_5 : IVec S128 32) (main_c_6 : IVec S128 1) (main_v4 : IVec S2048 1) (main_v14 : IVec S2048x1 1) (main_v24 : IVec S2048x1 1) (main_v30 : FVec F S2048x1 .f32) : IVec S2048 1 × IVec S2048x1 1 × IVec S2048x1 1 × IVec S2048x1 1 × IVec S2048x1 1 :=
  let main_cst_13 : FVec F S_ .f32 := constant S_ .f32 0x00000000#32
  let main_v33 : FVec F S2048x1 .f32 := broadcastInDim S2048x1 ![] bcast_S_S2048x1 main_cst_13
  let main_v34 : IVec S2048x1 1 := cmpf .ogt main_v30 main_v33
  let main_c_14 : IVec S_ 32 := constantI S_ 32 512#32
  let main_v35 : IVec S128 32 := broadcastInDim S128 ![] bcast_S_S128 main_c_14
  let main_v36 : IVec S128 32 := addi main_c_5 main_v35
  let main_v37 : IVec S128 32 := select main_c_6 main_v36 main_c_5
  let main_v38 : IVec S128x1 32 := broadcastInDim S128x1 ![0] bcast_S128_S128x1_0 main_v37
  let main_v39 : FVec F S2048x128 .f32 := (fun x i => Host.gather gather_S2048x512_S128x1_S2048x128_0_1_n_n_1_1_20481 x i) main_arg0 main_v38
  let main_v40 : FVec F S2048x1 .f32 := fn_norm (F := F) main_v39
  let main_v41 : FVec F S2048x128 .f32 := broadcastInDim S2048x128 ![0, 1] bcast_S2048x1_S2048x128_0_1 main_v40
  let main_v42 : FVec F S2048x128 .f32 := Host.divf main_v39 main_v41
  let main_cst_15 : FVec F S_ .f32 := constant S_ .f32 0x00000000#32
  let main_v43 : FVec F S2048x1 .f32 := broadcastInDim S2048x1 ![] bcast_S_S2048x1 main_cst_15
  let main_v44 : IVec S2048x1 1 := cmpf .ogt main_v40 main_v43
  (main_v4, main_v14, main_v24, main_v34, main_v44)

def fn_part1 {F : FTy → Type} [FloatOps F] (main_arg0 : FVec F S2048x512 .f32) (main_c_1 : IVec S128 32) (main_c_2 : IVec S128 1) (main_c_3 : IVec S128 32) (main_c_4 : IVec S128 1) (main_c_5 : IVec S128 32) (main_c_6 : IVec S128 1) (main_v4 : IVec S2048 1) (main_v10 : FVec F S2048x1 .f32) : IVec S2048 1 × IVec S2048x1 1 × IVec S2048x1 1 × IVec S2048x1 1 × IVec S2048x1 1 :=
  let main_cst : FVec F S_ .f32 := constant S_ .f32 0x00000000#32
  let main_v13 : FVec F S2048x1 .f32 := broadcastInDim S2048x1 ![] bcast_S_S2048x1 main_cst
  let main_v14 : IVec S2048x1 1 := cmpf .ogt main_v10 main_v13
  let main_c_10 : IVec S_ 32 := constantI S_ 32 512#32
  let main_v15 : IVec S128 32 := broadcastInDim S128 ![] bcast_S_S128 main_c_10
  let main_v16 : IVec S128 32 := addi main_c_1 main_v15
  let main_v17 : IVec S128 32 := select main_c_2 main_v16 main_c_1
  let main_v18 : IVec S128x1 32 := broadcastInDim S128x1 ![0] bcast_S128_S128x1_0 main_v17
  let main_v19 : FVec F S2048x128 .f32 := (fun x i => Host.gather gather_S2048x512_S128x1_S2048x128_0_1_n_n_1_1_20481 x i) main_arg0 main_v18
  let main_v20 : FVec F S2048x1 .f32 := fn_norm (F := F) main_v19
  let main_v21 : FVec F S2048x128 .f32 := broadcastInDim S2048x128 ![0, 1] bcast_S2048x1_S2048x128_0_1 main_v20
  let main_v22 : FVec F S2048x128 .f32 := Host.divf main_v19 main_v21
  let main_cst_11 : FVec F S_ .f32 := constant S_ .f32 0x00000000#32
  let main_v23 : FVec F S2048x1 .f32 := broadcastInDim S2048x1 ![] bcast_S_S2048x1 main_cst_11
  let main_v24 : IVec S2048x1 1 := cmpf .ogt main_v20 main_v23
  let main_c_12 : IVec S_ 32 := constantI S_ 32 512#32
  let main_v25 : IVec S128 32 := broadcastInDim S128 ![] bcast_S_S128 main_c_12
  let main_v26 : IVec S128 32 := addi main_c_3 main_v25
  let main_v27 : IVec S128 32 := select main_c_4 main_v26 main_c_3
  let main_v28 : IVec S128x1 32 := broadcastInDim S128x1 ![0] bcast_S128_S128x1_0 main_v27
  let main_v29 : FVec F S2048x128 .f32 := (fun x i => Host.gather gather_S2048x512_S128x1_S2048x128_0_1_n_n_1_1_20481 x i) main_arg0 main_v28
  let main_v30 : FVec F S2048x1 .f32 := fn_norm (F := F) main_v29
  let main_v31 : FVec F S2048x128 .f32 := broadcastInDim S2048x128 ![0, 1] bcast_S2048x1_S2048x128_0_1 main_v30
  let main_v32 : FVec F S2048x128 .f32 := Host.divf main_v29 main_v31
  fn_part2 (F := F) main_arg0 main_c_5 main_c_6 main_v4 main_v14 main_v24 main_v30

def fn {F : FTy → Type} [FloatOps F] (main_arg0 : FVec F S2048x512 .f32) (main_arg1 : IVec S2048 32) : IVec S2048 1 × IVec S2048x1 1 × IVec S2048x1 1 × IVec S2048x1 1 × IVec S2048x1 1 :=
  let main_c : IVec S128 32 := fun i => lit0 (S128.rowMajor i)
  let main_c_0 : IVec S128 1 := constantI S128 1 0#1
  let main_c_1 : IVec S128 32 := fun i => lit1 (S128.rowMajor i)
  let main_c_2 : IVec S128 1 := constantI S128 1 0#1
  let main_c_3 : IVec S128 32 := fun i => lit2 (S128.rowMajor i)
  let main_c_4 : IVec S128 1 := constantI S128 1 0#1
  let main_c_5 : IVec S128 32 := fun i => lit3 (S128.rowMajor i)
  let main_c_6 : IVec S128 1 := constantI S128 1 0#1
  let main_c_7 : IVec S_ 32 := constantI S_ 32 0#32
  let main_v0 : IVec S2048 32 := broadcastInDim S2048 ![] bcast_S_S2048 main_c_7
  let main_v1 : IVec S2048 1 := cmpi .sge main_arg1 main_v0
  let main_c_8 : IVec S_ 32 := constantI S_ 32 100#32
  let main_v2 : IVec S2048 32 := broadcastInDim S2048 ![] bcast_S_S2048 main_c_8
  let main_v3 : IVec S2048 1 := cmpi .slt main_arg1 main_v2
  let main_v4 : IVec S2048 1 := andi main_v1 main_v3
  let main_c_9 : IVec S_ 32 := constantI S_ 32 512#32
  let main_v5 : IVec S128 32 := broadcastInDim S128 ![] bcast_S_S128 main_c_9
  let main_v6 : IVec S128 32 := addi main_c main_v5
  let main_v7 : IVec S128 32 := select main_c_0 main_v6 main_c
  let main_v8 : IVec S128x1 32 := broadcastInDim S128x1 ![0] bcast_S128_S128x1_0 main_v7
  let main_v9 : FVec F S2048x128 .f32 := (fun x i => Host.gather gather_S2048x512_S128x1_S2048x128_0_1_n_n_1_1_20481 x i) main_arg0 main_v8
  let main_v10 : FVec F S2048x1 .f32 := fn_norm (F := F) main_v9
  let main_v11 : FVec F S2048x128 .f32 := broadcastInDim S2048x128 ![0, 1] bcast_S2048x1_S2048x128_0_1 main_v10
  let main_v12 : FVec F S2048x128 .f32 := Host.divf main_v9 main_v11
  fn_part1 (F := F) main_arg0 main_c_1 main_c_2 main_c_3 main_c_4 main_c_5 main_c_6 main_v4 main_v10
-- ==== Pre_separated.lean ====
abbrev S2048x512 : Shape := ⟨2, ![2048, 512]⟩
abbrev S2048 : Shape := ⟨1, ![2048]⟩
abbrev S128 : Shape := ⟨1, ![128]⟩
abbrev S_ : Shape := ⟨0, ![]⟩
abbrev S128x1 : Shape := ⟨2, ![128, 1]⟩
abbrev S2048x128 : Shape := ⟨2, ![2048, 128]⟩
abbrev S2048x1 : Shape := ⟨2, ![2048, 1]⟩
abbrev S128x2048 : Shape := ⟨2, ![128, 2048]⟩
abbrev S2048x2048 : Shape := ⟨2, ![2048, 2048]⟩
abbrev S2048x100 : Shape := ⟨2, ![2048, 100]⟩
abbrev S2048x100x1 : Shape := ⟨3, ![2048, 100, 1]⟩
abbrev S1x2048 : Shape := ⟨2, ![1, 2048]⟩

class Facts : Prop where
  bcast_S_S2048 : S_.BroadcastsInDim S2048 (![] : Fin 0 → Fin S2048.rank)
  bcast_S_S128 : S_.BroadcastsInDim S128 (![] : Fin 0 → Fin S128.rank)
  bcast_S128_S128x1_0 : S128.BroadcastsInDim S128x1 (![0] : Fin 1 → Fin S128x1.rank)
  reducesTo_S2048x128_S2048_d1 : S2048x128.ReducesTo [1] S2048
  h_S_ : 0 < S_.numel
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  bcast_S_S2048x1 : S_.BroadcastsInDim S2048x1 (![] : Fin 0 → Fin S2048x1.rank)
  transposes_S2048x128_S128x2048_1_0 : S2048x128.Transposes [1, 0] S128x2048
  bcast_S_S2048x2048 : S_.BroadcastsInDim S2048x2048 (![] : Fin 0 → Fin S2048x2048.rank)
  sliceFits_S2048x2048_S2048x100 : S2048x2048.Slices (fun _ => 0) S2048x100
  slices_S2048x100_S2048x1_0_99 : S2048x100.Slices ![0, 99] S2048x1
  bcast_S2048x1_S2048x2048_0_1 : S2048x1.BroadcastsInDim S2048x2048 (![0, 1] : Fin 2 → Fin S2048x2048.rank)
  reducesTo_S2048x2048_S2048_d1 : S2048x2048.ReducesTo [1] S2048
  bcast_S_S2048x100 : S_.BroadcastsInDim S2048x100 (![] : Fin 0 → Fin S2048x100.rank)
  bcast_S2048x100_S2048x100x1_0_1 : S2048x100.BroadcastsInDim S2048x100x1 (![0, 1] : Fin 2 → Fin S2048x100x1.rank)
  slices_S2048x100_S2048x1_0_0 : S2048x100.Slices ![0, 0] S2048x1
  shapeCasts_S2048x1_S2048 : S2048x1.ShapeCasts S2048
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  gather_S2048x512_S128x1_S2048x128_0_1_n_n_1_1_20481_wf : GatherDims.WF S2048x512 S128x1 S2048x128 [0] [1] [] [1] [] 1 ![2048, 1]
  dot_S2048x128_S128x2048_S2048x2048_1_0_0_1_n_n_wf : DotDims.WF S2048x128 S128x2048 S2048x2048 [1] [0] [0] [1] [] []
  gather_S2048_S2048x100x1_S2048x100_n_0_n_n_0_2_1_wf : GatherDims.WF S2048 S2048x100x1 S2048x100 [] [0] [] [0] [] 2 ![1]

variable [Facts]

def gather_S2048x512_S128x1_S2048x128_0_1_n_n_1_1_20481 : GatherDims S2048x512 S128x1 S2048x128 where
  offsetDims := [0]
  collapsedSliceDims := [1]
  operandBatchingDims := []
  startIndicesBatchingDims := []
  startIndexMap := [1]
  indexVectorDim := 1
  sliceSizes := ![2048, 1]
  wf := gather_S2048x512_S128x1_S2048x128_0_1_n_n_1_1_20481_wf
def dot_S2048x128_S128x2048_S2048x2048_1_0_0_1_n_n : DotDims S2048x128 S128x2048 S2048x2048 where
  lhsContracting := [1]
  rhsContracting := [0]
  lhsNonContracting := [0]
  rhsNonContracting := [1]
  lhsBatch := []
  rhsBatch := []
  wf := dot_S2048x128_S128x2048_S2048x2048_1_0_0_1_n_n_wf
def gather_S2048_S2048x100x1_S2048x100_n_0_n_n_0_2_1 : GatherDims S2048 S2048x100x1 S2048x100 where
  offsetDims := []
  collapsedSliceDims := [0]
  operandBatchingDims := []
  startIndicesBatchingDims := []
  startIndexMap := [0]
  indexVectorDim := 2
  sliceSizes := ![1]
  wf := gather_S2048_S2048x100x1_S2048x100_n_0_n_n_0_2_1_wf

noncomputable abbrev lit0 : Fin 128 → BitVec 32 := fun
  | 0 => 370#32 | 1 => 26#32 | 2 => 153#32 | 3 => 116#32 | 4 => 366#32 | 5 => 378#32 | 6 => 331#32 | 7 => 67#32
  | 8 => 475#32 | 9 => 256#32 | 10 => 208#32 | 11 => 232#32 | 12 => 369#32 | 13 => 165#32 | 14 => 502#32 | 15 => 380#32
  | 16 => 131#32 | 17 => 429#32 | 18 => 125#32 | 19 => 317#32 | 20 => 24#32 | 21 => 372#32 | 22 => 216#32 | 23 => 285#32
  | 24 => 56#32 | 25 => 17#32 | 26 => 73#32 | 27 => 186#32 | 28 => 134#32 | 29 => 103#32 | 30 => 295#32 | 31 => 98#32
  | 32 => 192#32 | 33 => 506#32 | 34 => 478#32 | 35 => 318#32 | 36 => 446#32 | 37 => 203#32 | 38 => 44#32 | 39 => 335#32
  | 40 => 62#32 | 41 => 188#32 | 42 => 100#32 | 43 => 488#32 | 44 => 68#32 | 45 => 371#32 | 46 => 157#32 | 47 => 283#32
  | 48 => 90#32 | 49 => 84#32 | 50 => 109#32 | 51 => 269#32 | 52 => 262#32 | 53 => 118#32 | 54 => 27#32 | 55 => 297#32
  | 56 => 127#32 | 57 => 136#32 | 58 => 450#32 | 59 => 64#32 | 60 => 364#32 | 61 => 58#32 | 62 => 129#32 | 63 => 108#32
  | 64 => 139#32 | 65 => 205#32 | 66 => 1#32 | 67 => 237#32 | 68 => 448#32 | 69 => 28#32 | 70 => 263#32 | 71 => 219#32
  | 72 => 462#32 | 73 => 511#32 | 74 => 174#32 | 75 => 469#32 | 76 => 440#32 | 77 => 403#32 | 78 => 345#32 | 79 => 354#32
  | 80 => 196#32 | 81 => 508#32 | 82 => 501#32 | 83 => 415#32 | 84 => 376#32 | 85 => 15#32 | 86 => 341#32 | 87 => 259#32
  | 88 => 307#32 | 89 => 184#32 | 90 => 254#32 | 91 => 195#32 | 92 => 359#32 | 93 => 177#32 | 94 => 348#32 | 95 => 213#32
  | 96 => 292#32 | 97 => 130#32 | 98 => 291#32 | 99 => 105#32 | 100 => 146#32 | 101 => 22#32 | 102 => 238#32 | 103 => 453#32
  | 104 => 319#32 | 105 => 444#32 | 106 => 233#32 | 107 => 14#32 | 108 => 302#32 | 109 => 211#32 | 110 => 231#32 | 111 => 340#32
  | 112 => 167#32 | 113 => 329#32 | 114 => 236#32 | 115 => 379#32 | 116 => 493#32 | 117 => 176#32 | 118 => 476#32 | 119 => 150#32
  | 120 => 306#32 | 121 => 311#32 | 122 => 43#32 | 123 => 365#32 | 124 => 91#32 | 125 => 447#32 | 126 => 164#32 | 127 => 481#32
  | _ => 0#32

noncomputable abbrev lit1 : Fin 128 → BitVec 32 := fun
  | 0 => 235#32 | 1 => 480#32 | 2 => 38#32 | 3 => 303#32 | 4 => 2#32 | 5 => 387#32 | 6 => 420#32 | 7 => 53#32
  | 8 => 383#32 | 9 => 137#32 | 10 => 390#32 | 11 => 491#32 | 12 => 117#32 | 13 => 199#32 | 14 => 393#32 | 15 => 93#32
  | 16 => 247#32 | 17 => 142#32 | 18 => 210#32 | 19 => 52#32 | 20 => 442#32 | 21 => 10#32 | 22 => 4#32 | 23 => 168#32
  | 24 => 39#32 | 25 => 352#32 | 26 => 88#32 | 27 => 289#32 | 28 => 34#32 | 29 => 65#32 | 30 => 284#32 | 31 => 115#32
  | 32 => 70#32 | 33 => 5#32 | 34 => 287#32 | 35 => 160#32 | 36 => 101#32 | 37 => 121#32 | 38 => 281#32 | 39 => 439#32
  | 40 => 487#32 | 41 => 77#32 | 42 => 473#32 | 43 => 274#32 | 44 => 498#32 | 45 => 30#32 | 46 => 202#32 | 47 => 25#32
  | 48 => 156#32 | 49 => 206#32 | 50 => 277#32 | 51 => 270#32 | 52 => 187#32 | 53 => 54#32 | 54 => 201#32 | 55 => 80#32
  | 56 => 194#32 | 57 => 173#32 | 58 => 221#32 | 59 => 3#32 | 60 => 503#32 | 61 => 185#32 | 62 => 21#32 | 63 => 251#32
  | 64 => 454#32 | 65 => 485#32 | 66 => 400#32 | 67 => 12#32 | 68 => 119#32 | 69 => 490#32 | 70 => 83#32 | 71 => 126#32
  | 72 => 9#32 | 73 => 323#32 | 74 => 193#32 | 75 => 351#32 | 76 => 504#32 | 77 => 367#32 | 78 => 135#32 | 79 => 253#32
  | 80 => 265#32 | 81 => 220#32 | 82 => 381#32 | 83 => 389#32 | 84 => 362#32 | 85 => 356#32 | 86 => 330#32 | 87 => 432#32
  | 88 => 467#32 | 89 => 397#32 | 90 => 484#32 | 91 => 225#32 | 92 => 299#32 | 93 => 427#32 | 94 => 346#32 | 95 => 385#32
  | 96 => 505#32 | 97 => 145#32 | 98 => 172#32 | 99 => 224#32 | 100 => 463#32 | 101 => 326#32 | 102 => 114#32 | 103 => 417#32
  | 104 => 57#32 | 105 => 468#32 | 106 => 264#32 | 107 => 85#32 | 108 => 178#32 | 109 => 49#32 | 110 => 152#32 | 111 => 438#32
  | 112 => 333#32 | 113 => 355#32 | 114 => 212#32 | 115 => 106#32 | 116 => 191#32 | 117 => 314#32 | 118 => 79#32 | 119 => 255#32
  | 120 => 33#32 | 121 => 474#32 | 122 => 339#32 | 123 => 396#32 | 124 => 228#32 | 125 => 242#32 | 126 => 151#32 | 127 => 288#32
  | _ => 0#32

noncomputable abbrev lit2 : Fin 128 → BitVec 32 := fun
  | 0 => 235#32 | 1 => 480#32 | 2 => 38#32 | 3 => 303#32 | 4 => 2#32 | 5 => 387#32 | 6 => 420#32 | 7 => 53#32
  | 8 => 383#32 | 9 => 137#32 | 10 => 390#32 | 11 => 491#32 | 12 => 117#32 | 13 => 199#32 | 14 => 393#32 | 15 => 93#32
  | 16 => 247#32 | 17 => 142#32 | 18 => 210#32 | 19 => 52#32 | 20 => 442#32 | 21 => 10#32 | 22 => 4#32 | 23 => 168#32
  | 24 => 39#32 | 25 => 352#32 | 26 => 88#32 | 27 => 289#32 | 28 => 34#32 | 29 => 65#32 | 30 => 284#32 | 31 => 115#32
  | 32 => 70#32 | 33 => 5#32 | 34 => 287#32 | 35 => 160#32 | 36 => 101#32 | 37 => 121#32 | 38 => 281#32 | 39 => 439#32
  | 40 => 487#32 | 41 => 77#32 | 42 => 473#32 | 43 => 274#32 | 44 => 498#32 | 45 => 30#32 | 46 => 202#32 | 47 => 25#32
  | 48 => 156#32 | 49 => 206#32 | 50 => 277#32 | 51 => 270#32 | 52 => 187#32 | 53 => 54#32 | 54 => 201#32 | 55 => 80#32
  | 56 => 194#32 | 57 => 173#32 | 58 => 221#32 | 59 => 3#32 | 60 => 503#32 | 61 => 185#32 | 62 => 21#32 | 63 => 251#32
  | 64 => 454#32 | 65 => 485#32 | 66 => 400#32 | 67 => 12#32 | 68 => 119#32 | 69 => 490#32 | 70 => 83#32 | 71 => 126#32
  | 72 => 9#32 | 73 => 323#32 | 74 => 193#32 | 75 => 351#32 | 76 => 504#32 | 77 => 367#32 | 78 => 135#32 | 79 => 253#32
  | 80 => 265#32 | 81 => 220#32 | 82 => 381#32 | 83 => 389#32 | 84 => 362#32 | 85 => 356#32 | 86 => 330#32 | 87 => 432#32
  | 88 => 467#32 | 89 => 397#32 | 90 => 484#32 | 91 => 225#32 | 92 => 299#32 | 93 => 427#32 | 94 => 346#32 | 95 => 385#32
  | 96 => 505#32 | 97 => 145#32 | 98 => 172#32 | 99 => 224#32 | 100 => 463#32 | 101 => 326#32 | 102 => 114#32 | 103 => 417#32
  | 104 => 57#32 | 105 => 468#32 | 106 => 264#32 | 107 => 85#32 | 108 => 178#32 | 109 => 49#32 | 110 => 152#32 | 111 => 438#32
  | 112 => 333#32 | 113 => 355#32 | 114 => 212#32 | 115 => 106#32 | 116 => 191#32 | 117 => 314#32 | 118 => 79#32 | 119 => 255#32
  | 120 => 33#32 | 121 => 474#32 | 122 => 339#32 | 123 => 396#32 | 124 => 228#32 | 125 => 242#32 | 126 => 151#32 | 127 => 288#32
  | _ => 0#32

noncomputable abbrev lit3 : Fin 128 → BitVec 32 := fun
  | 0 => 235#32 | 1 => 480#32 | 2 => 38#32 | 3 => 303#32 | 4 => 2#32 | 5 => 387#32 | 6 => 420#32 | 7 => 53#32
  | 8 => 383#32 | 9 => 137#32 | 10 => 390#32 | 11 => 491#32 | 12 => 117#32 | 13 => 199#32 | 14 => 393#32 | 15 => 93#32
  | 16 => 247#32 | 17 => 142#32 | 18 => 210#32 | 19 => 52#32 | 20 => 442#32 | 21 => 10#32 | 22 => 4#32 | 23 => 168#32
  | 24 => 39#32 | 25 => 352#32 | 26 => 88#32 | 27 => 289#32 | 28 => 34#32 | 29 => 65#32 | 30 => 284#32 | 31 => 115#32
  | 32 => 70#32 | 33 => 5#32 | 34 => 287#32 | 35 => 160#32 | 36 => 101#32 | 37 => 121#32 | 38 => 281#32 | 39 => 439#32
  | 40 => 487#32 | 41 => 77#32 | 42 => 473#32 | 43 => 274#32 | 44 => 498#32 | 45 => 30#32 | 46 => 202#32 | 47 => 25#32
  | 48 => 156#32 | 49 => 206#32 | 50 => 277#32 | 51 => 270#32 | 52 => 187#32 | 53 => 54#32 | 54 => 201#32 | 55 => 80#32
  | 56 => 194#32 | 57 => 173#32 | 58 => 221#32 | 59 => 3#32 | 60 => 503#32 | 61 => 185#32 | 62 => 21#32 | 63 => 251#32
  | 64 => 454#32 | 65 => 485#32 | 66 => 400#32 | 67 => 12#32 | 68 => 119#32 | 69 => 490#32 | 70 => 83#32 | 71 => 126#32
  | 72 => 9#32 | 73 => 323#32 | 74 => 193#32 | 75 => 351#32 | 76 => 504#32 | 77 => 367#32 | 78 => 135#32 | 79 => 253#32
  | 80 => 265#32 | 81 => 220#32 | 82 => 381#32 | 83 => 389#32 | 84 => 362#32 | 85 => 356#32 | 86 => 330#32 | 87 => 432#32
  | 88 => 467#32 | 89 => 397#32 | 90 => 484#32 | 91 => 225#32 | 92 => 299#32 | 93 => 427#32 | 94 => 346#32 | 95 => 385#32
  | 96 => 505#32 | 97 => 145#32 | 98 => 172#32 | 99 => 224#32 | 100 => 463#32 | 101 => 326#32 | 102 => 114#32 | 103 => 417#32
  | 104 => 57#32 | 105 => 468#32 | 106 => 264#32 | 107 => 85#32 | 108 => 178#32 | 109 => 49#32 | 110 => 152#32 | 111 => 438#32
  | 112 => 333#32 | 113 => 355#32 | 114 => 212#32 | 115 => 106#32 | 116 => 191#32 | 117 => 314#32 | 118 => 79#32 | 119 => 255#32
  | 120 => 33#32 | 121 => 474#32 | 122 => 339#32 | 123 => 396#32 | 124 => 228#32 | 125 => 242#32 | 126 => 151#32 | 127 => 288#32
  | _ => 0#32

def fn_norm {F : FTy → Type} [FloatOps F] (arg0 : FVec F S2048x128 .f32) : FVec F S2048x1 .f32 :=
  let v0 : FVec F S2048x128 .f32 := mulf arg0 arg0
  let cst : FVec F S_ .f32 := constant S_ .f32 0x00000000#32
  let v1 : FVec F S2048 .f32 := (fun x v => Host.reduceAdd x v reducesTo_S2048x128_S2048_d1 h_S_) v0 cst
  let v2 : FVec F S2048x1 .f32 := broadcastInDim S2048x1 ![0] bcast_S2048_S2048x1_0 v1
  let v3 : FVec F S2048x1 .f32 := Host.sqrt v2
  v3

def fn_where {F : FTy → Type} [FloatOps F] (arg0 : IVec S2048x2048 1) (arg1 : FVec F S_ .f32) (arg2 : FVec F S2048x2048 .f32) : FVec F S2048x2048 .f32 :=
  let v0 : FVec F S_ .f32 := id arg1
  let v1 : FVec F S2048x2048 .f32 := broadcastInDim S2048x2048 ![] bcast_S_S2048x2048 v0
  let v2 : FVec F S2048x2048 .f32 := select arg0 v1 arg2
  v2

def fn_where_0 {F : FTy → Type} [FloatOps F] (arg0 : IVec S2048x2048 1) (arg1 : FVec F S_ .f32) (arg2 : FVec F S_ .f32) : FVec F S2048x2048 .f32 :=
  let v0 : FVec F S2048x2048 .f32 := broadcastInDim S2048x2048 ![] bcast_S_S2048x2048 arg1
  let v1 : FVec F S2048x2048 .f32 := broadcastInDim S2048x2048 ![] bcast_S_S2048x2048 arg2
  let v2 : FVec F S2048x2048 .f32 := select arg0 v0 v1
  v2

def fn_part12 {F : FTy → Type} [FloatOps F] (main_arg1 : IVec S2048 32) (main_v4 : IVec S2048 1) (main_v14 : IVec S2048x1 1) (main_v24 : IVec S2048x1 1) (main_v34 : IVec S2048x1 1) (main_v44 : IVec S2048x1 1) (main_v85 : IVec S2048 1) (main_v92 : IVec S2048x2048 1) (main_v133 : IVec S2048 1) (main_v140 : IVec S2048x2048 1) (main_v181 : IVec S2048 1) (main_v188 : IVec S2048x2048 1) (main_v204 : FVec F S2048x2048 .f32) (main_values_57 : FVec F S2048x100 .f32) (main_v212 : FVec F S2048 .f32) (main_v218 : IVec S2048x100x1 32) : IVec S2048 1 × IVec S2048x1 1 × IVec S2048x1 1 × IVec S2048x1 1 × IVec S2048x1 1 × IVec S2048 1 × IVec S2048x2048 1 × IVec S2048 1 × IVec S2048x2048 1 × IVec S2048 1 × IVec S2048x2048 1 × IVec S2048 1 × IVec S2048x2048 1 :=
  let main_v219 : IVec S2048x100 32 := (fun x i => Host.gather gather_S2048_S2048x100x1_S2048x100_n_0_n_n_0_2_1 x i) main_arg1 main_v218
  let main_v220 : IVec S2048x1 32 := (extractStridedSlice S2048x1 ![0, 0] · slices_S2048x100_S2048x1_0_0) main_v219
  let main_v221 : IVec S2048 32 := shapeCast S2048 main_v220 shapeCasts_S2048x1_S2048
  let main_v222 : IVec S2048 1 := cmpi .eq main_v221 main_arg1
  let main_v223 : IVec S2048x1 32 := broadcastInDim S2048x1 ![0] bcast_S2048_S2048x1_0 main_arg1
  let main_v224 : IVec S1x2048 32 := broadcastInDim S1x2048 ![1] bcast_S2048_S1x2048_1 main_arg1
  let main_v225 : IVec S2048x2048 32 := broadcastInDim S2048x2048 ![0, 1] bcast_S2048x1_S2048x2048_0_1 main_v223
  let main_v226 : IVec S2048x2048 32 := broadcastInDim S2048x2048 ![0, 1] bcast_S1x2048_S2048x2048_0_1 main_v224
  let main_v227 : IVec S2048x2048 1 := cmpi .eq main_v225 main_v226
  let main_cst_65 : FVec F S_ .f32 := constant S_ .f32 0x42C80000#32
  let main_v228 : FVec F S2048 .f32 := broadcastInDim S2048 ![] bcast_S_S2048 main_cst_65
  let main_v229 : IVec S2048 1 := cmpf .oeq main_v212 main_v228
  let main_v230 : FVec F S2048x1 .f32 := (extractStridedSlice S2048x1 ![0, 0] · slices_S2048x100_S2048x1_0_0) main_values_57
  let main_v231 : FVec F S2048x2048 .f32 := broadcastInDim S2048x2048 ![0, 1] bcast_S2048x1_S2048x2048_0_1 main_v230
  let main_v232 : IVec S2048x2048 1 := cmpf .olt main_v204 main_v231
  let main_v233 : IVec S2048x1 1 := broadcastInDim S2048x1 ![0] bcast_S2048_S2048x1_0 main_v222
  let main_v234 : IVec S2048x2048 1 := broadcastInDim S2048x2048 ![0, 1] bcast_S2048x1_S2048x2048_0_1 main_v233
  let main_v235 : IVec S2048x2048 1 := cmpi .eq main_v227 main_v234
  let main_v236 : IVec S2048x2048 1 := ori main_v232 main_v235
  (main_v4, main_v14, main_v24, main_v34, main_v44, main_v85, main_v92, main_v133, main_v140, main_v181, main_v188, main_v229, main_v236)

def fn_part11 {F : FTy → Type} [FloatOps F] (main_arg1 : IVec S2048 32) (main_v4 : IVec S2048 1) (main_v14 : IVec S2048x1 1) (main_v24 : IVec S2048x1 1) (main_v34 : IVec S2048x1 1) (main_v44 : IVec S2048x1 1) (main_v85 : IVec S2048 1) (main_v92 : IVec S2048x2048 1) (main_v133 : IVec S2048 1) (main_v140 : IVec S2048x2048 1) (main_v181 : IVec S2048 1) (main_v188 : IVec S2048x2048 1) (main_v198 : FVec F S2048x2048 .f32) (main_v203 : IVec S2048x2048 1) : IVec S2048 1 × IVec S2048x1 1 × IVec S2048x1 1 × IVec S2048x1 1 × IVec S2048x1 1 × IVec S2048 1 × IVec S2048x2048 1 × IVec S2048 1 × IVec S2048x2048 1 × IVec S2048 1 × IVec S2048x2048 1 × IVec S2048 1 × IVec S2048x2048 1 :=
  let main_cst_56 : FVec F S_ .f32 := constant S_ .f32 0xFF800000#32
  let main_v204 : FVec F S2048x2048 .f32 := fn_where (F := F) main_v203 main_cst_56 main_v198
  let main_values_57 : FVec F S2048x100 .f32 := (fun x => (Host.topK S2048x100 1 (FloatOps.cmpfTotal .gt) x sliceFits_S2048x2048_S2048x100).1) main_v204
  let main_indices_58 : IVec S2048x100 32 := (fun x => (Host.topK S2048x100 1 (FloatOps.cmpfTotal .gt) x sliceFits_S2048x2048_S2048x100).2) main_v204
  let main_v205 : FVec F S2048x1 .f32 := (extractStridedSlice S2048x1 ![0, 99] · slices_S2048x100_S2048x1_0_99) main_values_57
  let main_cst_59 : FVec F S_ .f32 := constant S_ .f32 0x39900000#32
  let main_v206 : FVec F S2048x1 .f32 := broadcastInDim S2048x1 ![] bcast_S_S2048x1 main_cst_59
  let main_v207 : FVec F S2048x1 .f32 := subf main_v205 main_v206
  let main_v208 : FVec F S2048x2048 .f32 := broadcastInDim S2048x2048 ![0, 1] bcast_S2048x1_S2048x2048_0_1 main_v207
  let main_v209 : IVec S2048x2048 1 := cmpf .ogt main_v204 main_v208
  let main_cst_60 : FVec F S_ .f32 := constant S_ .f32 0x3F800000#32
  let main_cst_61 : FVec F S_ .f32 := constant S_ .f32 0x00000000#32
  let main_v210 : FVec F S2048x2048 .f32 := fn_where_0 (F := F) main_v209 main_cst_60 main_cst_61
  let main_v211 : FVec F S2048x2048 .f32 := id main_v210
  let main_cst_62 : FVec F S_ .f32 := constant S_ .f32 0x00000000#32
  let main_v212 : FVec F S2048 .f32 := (fun x v => Host.reduceAdd x v reducesTo_S2048x2048_S2048_d1 h_S_) main_v211 main_cst_62
  let main_c_63 : IVec S_ 32 := constantI S_ 32 0#32
  let main_v213 : IVec S2048x100 32 := broadcastInDim S2048x100 ![] bcast_S_S2048x100 main_c_63
  let main_v214 : IVec S2048x100 1 := cmpi .slt main_indices_58 main_v213
  let main_c_64 : IVec S_ 32 := constantI S_ 32 2048#32
  let main_v215 : IVec S2048x100 32 := broadcastInDim S2048x100 ![] bcast_S_S2048x100 main_c_64
  let main_v216 : IVec S2048x100 32 := addi main_indices_58 main_v215
  let main_v217 : IVec S2048x100 32 := select main_v214 main_v216 main_indices_58
  let main_v218 : IVec S2048x100x1 32 := broadcastInDim S2048x100x1 ![0, 1] bcast_S2048x100_S2048x100x1_0_1 main_v217
  fn_part12 (F := F) main_arg1 main_v4 main_v14 main_v24 main_v34 main_v44 main_v85 main_v92 main_v133 main_v140 main_v181 main_v188 main_v204 main_values_57 main_v212 main_v218

def fn_part10 {F : FTy → Type} [FloatOps F] (main_arg0 : FVec F S2048x512 .f32) (main_arg1 : IVec S2048 32) (main_c_5 : IVec S128 32) (main_c_10 : IVec S128 1) (main_v4 : IVec S2048 1) (main_v14 : IVec S2048x1 1) (main_v24 : IVec S2048x1 1) (main_v34 : IVec S2048x1 1) (main_v44 : IVec S2048x1 1) (main_v85 : IVec S2048 1) (main_v92 : IVec S2048x2048 1) (main_v133 : IVec S2048 1) (main_v140 : IVec S2048x2048 1) (main_v156 : FVec F S2048x2048 .f32) (main_values_45 : FVec F S2048x100 .f32) (main_v174 : IVec S2048 1) (main_v179 : IVec S2048x2048 1) (main_v181 : IVec S2048 1) : IVec S2048 1 × IVec S2048x1 1 × IVec S2048x1 1 × IVec S2048x1 1 × IVec S2048x1 1 × IVec S2048 1 × IVec S2048x2048 1 × IVec S2048 1 × IVec S2048x2048 1 × IVec S2048 1 × IVec S2048x2048 1 × IVec S2048 1 × IVec S2048x2048 1 :=
  let main_v182 : FVec F S2048x1 .f32 := (extractStridedSlice S2048x1 ![0, 0] · slices_S2048x100_S2048x1_0_0) main_values_45
  let main_v183 : FVec F S2048x2048 .f32 := broadcastInDim S2048x2048 ![0, 1] bcast_S2048x1_S2048x2048_0_1 main_v182
  let main_v184 : IVec S2048x2048 1 := cmpf .olt main_v156 main_v183
  let main_v185 : IVec S2048x1 1 := broadcastInDim S2048x1 ![0] bcast_S2048_S2048x1_0 main_v174
  let main_v186 : IVec S2048x2048 1 := broadcastInDim S2048x2048 ![0, 1] bcast_S2048x1_S2048x2048_0_1 main_v185
  let main_v187 : IVec S2048x2048 1 := cmpi .eq main_v179 main_v186
  let main_v188 : IVec S2048x2048 1 := ori main_v184 main_v187
  let main_c_54 : IVec S_ 32 := constantI S_ 32 512#32
  let main_v189 : IVec S128 32 := broadcastInDim S128 ![] bcast_S_S128 main_c_54
  let main_v190 : IVec S128 32 := addi main_c_5 main_v189
  let main_v191 : IVec S128 32 := select main_c_10 main_v190 main_c_5
  let main_v192 : IVec S128x1 32 := broadcastInDim S128x1 ![0] bcast_S128_S128x1_0 main_v191
  let main_v193 : FVec F S2048x128 .f32 := (fun x i => Host.gather gather_S2048x512_S128x1_S2048x128_0_1_n_n_1_1_20481 x i) main_arg0 main_v192
  let main_v194 : FVec F S2048x1 .f32 := fn_norm (F := F) main_v193
  let main_v195 : FVec F S2048x128 .f32 := broadcastInDim S2048x128 ![0, 1] bcast_S2048x1_S2048x128_0_1 main_v194
  let main_v196 : FVec F S2048x128 .f32 := Host.divf main_v193 main_v195
  let main_v197 : FVec F S128x2048 .f32 := (transpose S128x2048 [1, 0] · transposes_S2048x128_S128x2048_1_0) main_v196
  let main_v198 : FVec F S2048x2048 .f32 := (fun l r => Host.dotGeneral dot_S2048x128_S128x2048_S2048x2048_1_0_0_1_n_n none l r) main_v196 main_v197
  let main_v199 : IVec S2048x2048 32 := iotaInDim S2048x2048 32 0
  let main_v200 : IVec S2048x2048 32 := iotaInDim S2048x2048 32 1
  let main_c_55 : IVec S_ 32 := constantI S_ 32 0#32
  let main_v201 : IVec S2048x2048 32 := broadcastInDim S2048x2048 ![] bcast_S_S2048x2048 main_c_55
  let main_v202 : IVec S2048x2048 32 := addi main_v199 main_v201
  let main_v203 : IVec S2048x2048 1 := cmpi .eq main_v202 main_v200
  fn_part11 (F := F) main_arg1 main_v4 main_v14 main_v24 main_v34 main_v44 main_v85 main_v92 main_v133 main_v140 main_v181 main_v188 main_v198 main_v203

def fn_part9 {F : FTy → Type} [FloatOps F] (main_arg0 : FVec F S2048x512 .f32) (main_arg1 : IVec S2048 32) (main_c_5 : IVec S128 32) (main_c_10 : IVec S128 1) (main_v4 : IVec S2048 1) (main_v14 : IVec S2048x1 1) (main_v24 : IVec S2048x1 1) (main_v34 : IVec S2048x1 1) (main_v44 : IVec S2048x1 1) (main_v85 : IVec S2048 1) (main_v92 : IVec S2048x2048 1) (main_v133 : IVec S2048 1) (main_v140 : IVec S2048x2048 1) (main_v156 : FVec F S2048x2048 .f32) (main_values_45 : FVec F S2048x100 .f32) (main_indices_46 : IVec S2048x100 32) (main_v161 : IVec S2048x2048 1) (main_cst_48 : FVec F S_ .f32) (main_cst_49 : FVec F S_ .f32) : IVec S2048 1 × IVec S2048x1 1 × IVec S2048x1 1 × IVec S2048x1 1 × IVec S2048x1 1 × IVec S2048 1 × IVec S2048x2048 1 × IVec S2048 1 × IVec S2048x2048 1 × IVec S2048 1 × IVec S2048x2048 1 × IVec S2048 1 × IVec S2048x2048 1 :=
  let main_v162 : FVec F S2048x2048 .f32 := fn_where_0 (F := F) main_v161 main_cst_48 main_cst_49
  let main_v163 : FVec F S2048x2048 .f32 := id main_v162
  let main_cst_50 : FVec F S_ .f32 := constant S_ .f32 0x00000000#32
  let main_v164 : FVec F S2048 .f32 := (fun x v => Host.reduceAdd x v reducesTo_S2048x2048_S2048_d1 h_S_) main_v163 main_cst_50
  let main_c_51 : IVec S_ 32 := constantI S_ 32 0#32
  let main_v165 : IVec S2048x100 32 := broadcastInDim S2048x100 ![] bcast_S_S2048x100 main_c_51
  let main_v166 : IVec S2048x100 1 := cmpi .slt main_indices_46 main_v165
  let main_c_52 : IVec S_ 32 := constantI S_ 32 2048#32
  let main_v167 : IVec S2048x100 32 := broadcastInDim S2048x100 ![] bcast_S_S2048x100 main_c_52
  let main_v168 : IVec S2048x100 32 := addi main_indices_46 main_v167
  let main_v169 : IVec S2048x100 32 := select main_v166 main_v168 main_indices_46
  let main_v170 : IVec S2048x100x1 32 := broadcastInDim S2048x100x1 ![0, 1] bcast_S2048x100_S2048x100x1_0_1 main_v169
  let main_v171 : IVec S2048x100 32 := (fun x i => Host.gather gather_S2048_S2048x100x1_S2048x100_n_0_n_n_0_2_1 x i) main_arg1 main_v170
  let main_v172 : IVec S2048x1 32 := (extractStridedSlice S2048x1 ![0, 0] · slices_S2048x100_S2048x1_0_0) main_v171
  let main_v173 : IVec S2048 32 := shapeCast S2048 main_v172 shapeCasts_S2048x1_S2048
  let main_v174 : IVec S2048 1 := cmpi .eq main_v173 main_arg1
  let main_v175 : IVec S2048x1 32 := broadcastInDim S2048x1 ![0] bcast_S2048_S2048x1_0 main_arg1
  let main_v176 : IVec S1x2048 32 := broadcastInDim S1x2048 ![1] bcast_S2048_S1x2048_1 main_arg1
  let main_v177 : IVec S2048x2048 32 := broadcastInDim S2048x2048 ![0, 1] bcast_S2048x1_S2048x2048_0_1 main_v175
  let main_v178 : IVec S2048x2048 32 := broadcastInDim S2048x2048 ![0, 1] bcast_S1x2048_S2048x2048_0_1 main_v176
  let main_v179 : IVec S2048x2048 1 := cmpi .eq main_v177 main_v178
  let main_cst_53 : FVec F S_ .f32 := constant S_ .f32 0x42C80000#32
  let main_v180 : FVec F S2048 .f32 := broadcastInDim S2048 ![] bcast_S_S2048 main_cst_53
  let main_v181 : IVec S2048 1 := cmpf .oeq main_v164 main_v180
  fn_part10 (F := F) main_arg0 main_arg1 main_c_5 main_c_10 main_v4 main_v14 main_v24 main_v34 main_v44 main_v85 main_v92 main_v133 main_v140 main_v156 main_values_45 main_v174 main_v179 main_v181

def fn_part8 {F : FTy → Type} [FloatOps F] (main_arg0 : FVec F S2048x512 .f32) (main_arg1 : IVec S2048 32) (main_c_5 : IVec S128 32) (main_c_10 : IVec S128 1) (main_v4 : IVec S2048 1) (main_v14 : IVec S2048x1 1) (main_v24 : IVec S2048x1 1) (main_v34 : IVec S2048x1 1) (main_v44 : IVec S2048x1 1) (main_v85 : IVec S2048 1) (main_v92 : IVec S2048x2048 1) (main_v133 : IVec S2048 1) (main_v140 : IVec S2048x2048 1) (main_v144 : IVec S128x1 32) : IVec S2048 1 × IVec S2048x1 1 × IVec S2048x1 1 × IVec S2048x1 1 × IVec S2048x1 1 × IVec S2048 1 × IVec S2048x2048 1 × IVec S2048 1 × IVec S2048x2048 1 × IVec S2048 1 × IVec S2048x2048 1 × IVec S2048 1 × IVec S2048x2048 1 :=
  let main_v145 : FVec F S2048x128 .f32 := (fun x i => Host.gather gather_S2048x512_S128x1_S2048x128_0_1_n_n_1_1_20481 x i) main_arg0 main_v144
  let main_v146 : FVec F S2048x1 .f32 := fn_norm (F := F) main_v145
  let main_v147 : FVec F S2048x128 .f32 := broadcastInDim S2048x128 ![0, 1] bcast_S2048x1_S2048x128_0_1 main_v146
  let main_v148 : FVec F S2048x128 .f32 := Host.divf main_v145 main_v147
  let main_v149 : FVec F S128x2048 .f32 := (transpose S128x2048 [1, 0] · transposes_S2048x128_S128x2048_1_0) main_v148
  let main_v150 : FVec F S2048x2048 .f32 := (fun l r => Host.dotGeneral dot_S2048x128_S128x2048_S2048x2048_1_0_0_1_n_n none l r) main_v148 main_v149
  let main_v151 : IVec S2048x2048 32 := iotaInDim S2048x2048 32 0
  let main_v152 : IVec S2048x2048 32 := iotaInDim S2048x2048 32 1
  let main_c_43 : IVec S_ 32 := constantI S_ 32 0#32
  let main_v153 : IVec S2048x2048 32 := broadcastInDim S2048x2048 ![] bcast_S_S2048x2048 main_c_43
  let main_v154 : IVec S2048x2048 32 := addi main_v151 main_v153
  let main_v155 : IVec S2048x2048 1 := cmpi .eq main_v154 main_v152
  let main_cst_44 : FVec F S_ .f32 := constant S_ .f32 0xFF800000#32
  let main_v156 : FVec F S2048x2048 .f32 := fn_where (F := F) main_v155 main_cst_44 main_v150
  let main_values_45 : FVec F S2048x100 .f32 := (fun x => (Host.topK S2048x100 1 (FloatOps.cmpfTotal .gt) x sliceFits_S2048x2048_S2048x100).1) main_v156
  let main_indices_46 : IVec S2048x100 32 := (fun x => (Host.topK S2048x100 1 (FloatOps.cmpfTotal .gt) x sliceFits_S2048x2048_S2048x100).2) main_v156
  let main_v157 : FVec F S2048x1 .f32 := (extractStridedSlice S2048x1 ![0, 99] · slices_S2048x100_S2048x1_0_99) main_values_45
  let main_cst_47 : FVec F S_ .f32 := constant S_ .f32 0x39900000#32
  let main_v158 : FVec F S2048x1 .f32 := broadcastInDim S2048x1 ![] bcast_S_S2048x1 main_cst_47
  let main_v159 : FVec F S2048x1 .f32 := subf main_v157 main_v158
  let main_v160 : FVec F S2048x2048 .f32 := broadcastInDim S2048x2048 ![0, 1] bcast_S2048x1_S2048x2048_0_1 main_v159
  let main_v161 : IVec S2048x2048 1 := cmpf .ogt main_v156 main_v160
  let main_cst_48 : FVec F S_ .f32 := constant S_ .f32 0x3F800000#32
  let main_cst_49 : FVec F S_ .f32 := constant S_ .f32 0x00000000#32
  fn_part9 (F := F) main_arg0 main_arg1 main_c_5 main_c_10 main_v4 main_v14 main_v24 main_v34 main_v44 main_v85 main_v92 main_v133 main_v140 main_v156 main_values_45 main_indices_46 main_v161 main_cst_48 main_cst_49

def fn_part7 {F : FTy → Type} [FloatOps F] (main_arg0 : FVec F S2048x512 .f32) (main_arg1 : IVec S2048 32) (main_c_3 : IVec S128 32) (main_c_5 : IVec S128 32) (main_c_9 : IVec S128 1) (main_c_10 : IVec S128 1) (main_v4 : IVec S2048 1) (main_v14 : IVec S2048x1 1) (main_v24 : IVec S2048x1 1) (main_v34 : IVec S2048x1 1) (main_v44 : IVec S2048x1 1) (main_v85 : IVec S2048 1) (main_v92 : IVec S2048x2048 1) (main_v108 : FVec F S2048x2048 .f32) (main_values_33 : FVec F S2048x100 .f32) (main_v116 : FVec F S2048 .f32) (main_v122 : IVec S2048x100x1 32) : IVec S2048 1 × IVec S2048x1 1 × IVec S2048x1 1 × IVec S2048x1 1 × IVec S2048x1 1 × IVec S2048 1 × IVec S2048x2048 1 × IVec S2048 1 × IVec S2048x2048 1 × IVec S2048 1 × IVec S2048x2048 1 × IVec S2048 1 × IVec S2048x2048 1 :=
  let main_v123 : IVec S2048x100 32 := (fun x i => Host.gather gather_S2048_S2048x100x1_S2048x100_n_0_n_n_0_2_1 x i) main_arg1 main_v122
  let main_v124 : IVec S2048x1 32 := (extractStridedSlice S2048x1 ![0, 0] · slices_S2048x100_S2048x1_0_0) main_v123
  let main_v125 : IVec S2048 32 := shapeCast S2048 main_v124 shapeCasts_S2048x1_S2048
  let main_v126 : IVec S2048 1 := cmpi .eq main_v125 main_arg1
  let main_v127 : IVec S2048x1 32 := broadcastInDim S2048x1 ![0] bcast_S2048_S2048x1_0 main_arg1
  let main_v128 : IVec S1x2048 32 := broadcastInDim S1x2048 ![1] bcast_S2048_S1x2048_1 main_arg1
  let main_v129 : IVec S2048x2048 32 := broadcastInDim S2048x2048 ![0, 1] bcast_S2048x1_S2048x2048_0_1 main_v127
  let main_v130 : IVec S2048x2048 32 := broadcastInDim S2048x2048 ![0, 1] bcast_S1x2048_S2048x2048_0_1 main_v128
  let main_v131 : IVec S2048x2048 1 := cmpi .eq main_v129 main_v130
  let main_cst_41 : FVec F S_ .f32 := constant S_ .f32 0x42C80000#32
  let main_v132 : FVec F S2048 .f32 := broadcastInDim S2048 ![] bcast_S_S2048 main_cst_41
  let main_v133 : IVec S2048 1 := cmpf .oeq main_v116 main_v132
  let main_v134 : FVec F S2048x1 .f32 := (extractStridedSlice S2048x1 ![0, 0] · slices_S2048x100_S2048x1_0_0) main_values_33
  let main_v135 : FVec F S2048x2048 .f32 := broadcastInDim S2048x2048 ![0, 1] bcast_S2048x1_S2048x2048_0_1 main_v134
  let main_v136 : IVec S2048x2048 1 := cmpf .olt main_v108 main_v135
  let main_v137 : IVec S2048x1 1 := broadcastInDim S2048x1 ![0] bcast_S2048_S2048x1_0 main_v126
  let main_v138 : IVec S2048x2048 1 := broadcastInDim S2048x2048 ![0, 1] bcast_S2048x1_S2048x2048_0_1 main_v137
  let main_v139 : IVec S2048x2048 1 := cmpi .eq main_v131 main_v138
  let main_v140 : IVec S2048x2048 1 := ori main_v136 main_v139
  let main_c_42 : IVec S_ 32 := constantI S_ 32 512#32
  let main_v141 : IVec S128 32 := broadcastInDim S128 ![] bcast_S_S128 main_c_42
  let main_v142 : IVec S128 32 := addi main_c_3 main_v141
  let main_v143 : IVec S128 32 := select main_c_9 main_v142 main_c_3
  let main_v144 : IVec S128x1 32 := broadcastInDim S128x1 ![0] bcast_S128_S128x1_0 main_v143
  fn_part8 (F := F) main_arg0 main_arg1 main_c_5 main_c_10 main_v4 main_v14 main_v24 main_v34 main_v44 main_v85 main_v92 main_v133 main_v140 main_v144

def fn_part6 {F : FTy → Type} [FloatOps F] (main_arg0 : FVec F S2048x512 .f32) (main_arg1 : IVec S2048 32) (main_c_3 : IVec S128 32) (main_c_5 : IVec S128 32) (main_c_9 : IVec S128 1) (main_c_10 : IVec S128 1) (main_v4 : IVec S2048 1) (main_v14 : IVec S2048x1 1) (main_v24 : IVec S2048x1 1) (main_v34 : IVec S2048x1 1) (main_v44 : IVec S2048x1 1) (main_v85 : IVec S2048 1) (main_v92 : IVec S2048x2048 1) (main_v102 : FVec F S2048x2048 .f32) (main_v107 : IVec S2048x2048 1) : IVec S2048 1 × IVec S2048x1 1 × IVec S2048x1 1 × IVec S2048x1 1 × IVec S2048x1 1 × IVec S2048 1 × IVec S2048x2048 1 × IVec S2048 1 × IVec S2048x2048 1 × IVec S2048 1 × IVec S2048x2048 1 × IVec S2048 1 × IVec S2048x2048 1 :=
  let main_cst_32 : FVec F S_ .f32 := constant S_ .f32 0xFF800000#32
  let main_v108 : FVec F S2048x2048 .f32 := fn_where (F := F) main_v107 main_cst_32 main_v102
  let main_values_33 : FVec F S2048x100 .f32 := (fun x => (Host.topK S2048x100 1 (FloatOps.cmpfTotal .gt) x sliceFits_S2048x2048_S2048x100).1) main_v108
  let main_indices_34 : IVec S2048x100 32 := (fun x => (Host.topK S2048x100 1 (FloatOps.cmpfTotal .gt) x sliceFits_S2048x2048_S2048x100).2) main_v108
  let main_v109 : FVec F S2048x1 .f32 := (extractStridedSlice S2048x1 ![0, 99] · slices_S2048x100_S2048x1_0_99) main_values_33
  let main_cst_35 : FVec F S_ .f32 := constant S_ .f32 0x39900000#32
  let main_v110 : FVec F S2048x1 .f32 := broadcastInDim S2048x1 ![] bcast_S_S2048x1 main_cst_35
  let main_v111 : FVec F S2048x1 .f32 := subf main_v109 main_v110
  let main_v112 : FVec F S2048x2048 .f32 := broadcastInDim S2048x2048 ![0, 1] bcast_S2048x1_S2048x2048_0_1 main_v111
  let main_v113 : IVec S2048x2048 1 := cmpf .ogt main_v108 main_v112
  let main_cst_36 : FVec F S_ .f32 := constant S_ .f32 0x3F800000#32
  let main_cst_37 : FVec F S_ .f32 := constant S_ .f32 0x00000000#32
  let main_v114 : FVec F S2048x2048 .f32 := fn_where_0 (F := F) main_v113 main_cst_36 main_cst_37
  let main_v115 : FVec F S2048x2048 .f32 := id main_v114
  let main_cst_38 : FVec F S_ .f32 := constant S_ .f32 0x00000000#32
  let main_v116 : FVec F S2048 .f32 := (fun x v => Host.reduceAdd x v reducesTo_S2048x2048_S2048_d1 h_S_) main_v115 main_cst_38
  let main_c_39 : IVec S_ 32 := constantI S_ 32 0#32
  let main_v117 : IVec S2048x100 32 := broadcastInDim S2048x100 ![] bcast_S_S2048x100 main_c_39
  let main_v118 : IVec S2048x100 1 := cmpi .slt main_indices_34 main_v117
  let main_c_40 : IVec S_ 32 := constantI S_ 32 2048#32
  let main_v119 : IVec S2048x100 32 := broadcastInDim S2048x100 ![] bcast_S_S2048x100 main_c_40
  let main_v120 : IVec S2048x100 32 := addi main_indices_34 main_v119
  let main_v121 : IVec S2048x100 32 := select main_v118 main_v120 main_indices_34
  let main_v122 : IVec S2048x100x1 32 := broadcastInDim S2048x100x1 ![0, 1] bcast_S2048x100_S2048x100x1_0_1 main_v121
  fn_part7 (F := F) main_arg0 main_arg1 main_c_3 main_c_5 main_c_9 main_c_10 main_v4 main_v14 main_v24 main_v34 main_v44 main_v85 main_v92 main_v108 main_values_33 main_v116 main_v122

def fn_part5 {F : FTy → Type} [FloatOps F] (main_arg0 : FVec F S2048x512 .f32) (main_arg1 : IVec S2048 32) (main_c_1 : IVec S128 32) (main_c_3 : IVec S128 32) (main_c_5 : IVec S128 32) (main_c_8 : IVec S128 1) (main_c_9 : IVec S128 1) (main_c_10 : IVec S128 1) (main_v4 : IVec S2048 1) (main_v14 : IVec S2048x1 1) (main_v24 : IVec S2048x1 1) (main_v34 : IVec S2048x1 1) (main_v44 : IVec S2048x1 1) (main_v60 : FVec F S2048x2048 .f32) (main_values : FVec F S2048x100 .f32) (main_v78 : IVec S2048 1) (main_v83 : IVec S2048x2048 1) (main_v85 : IVec S2048 1) : IVec S2048 1 × IVec S2048x1 1 × IVec S2048x1 1 × IVec S2048x1 1 × IVec S2048x1 1 × IVec S2048 1 × IVec S2048x2048 1 × IVec S2048 1 × IVec S2048x2048 1 × IVec S2048 1 × IVec S2048x2048 1 × IVec S2048 1 × IVec S2048x2048 1 :=
  let main_v86 : FVec F S2048x1 .f32 := (extractStridedSlice S2048x1 ![0, 0] · slices_S2048x100_S2048x1_0_0) main_values
  let main_v87 : FVec F S2048x2048 .f32 := broadcastInDim S2048x2048 ![0, 1] bcast_S2048x1_S2048x2048_0_1 main_v86
  let main_v88 : IVec S2048x2048 1 := cmpf .olt main_v60 main_v87
  let main_v89 : IVec S2048x1 1 := broadcastInDim S2048x1 ![0] bcast_S2048_S2048x1_0 main_v78
  let main_v90 : IVec S2048x2048 1 := broadcastInDim S2048x2048 ![0, 1] bcast_S2048x1_S2048x2048_0_1 main_v89
  let main_v91 : IVec S2048x2048 1 := cmpi .eq main_v83 main_v90
  let main_v92 : IVec S2048x2048 1 := ori main_v88 main_v91
  let main_c_30 : IVec S_ 32 := constantI S_ 32 512#32
  let main_v93 : IVec S128 32 := broadcastInDim S128 ![] bcast_S_S128 main_c_30
  let main_v94 : IVec S128 32 := addi main_c_1 main_v93
  let main_v95 : IVec S128 32 := select main_c_8 main_v94 main_c_1
  let main_v96 : IVec S128x1 32 := broadcastInDim S128x1 ![0] bcast_S128_S128x1_0 main_v95
  let main_v97 : FVec F S2048x128 .f32 := (fun x i => Host.gather gather_S2048x512_S128x1_S2048x128_0_1_n_n_1_1_20481 x i) main_arg0 main_v96
  let main_v98 : FVec F S2048x1 .f32 := fn_norm (F := F) main_v97
  let main_v99 : FVec F S2048x128 .f32 := broadcastInDim S2048x128 ![0, 1] bcast_S2048x1_S2048x128_0_1 main_v98
  let main_v100 : FVec F S2048x128 .f32 := Host.divf main_v97 main_v99
  let main_v101 : FVec F S128x2048 .f32 := (transpose S128x2048 [1, 0] · transposes_S2048x128_S128x2048_1_0) main_v100
  let main_v102 : FVec F S2048x2048 .f32 := (fun l r => Host.dotGeneral dot_S2048x128_S128x2048_S2048x2048_1_0_0_1_n_n none l r) main_v100 main_v101
  let main_v103 : IVec S2048x2048 32 := iotaInDim S2048x2048 32 0
  let main_v104 : IVec S2048x2048 32 := iotaInDim S2048x2048 32 1
  let main_c_31 : IVec S_ 32 := constantI S_ 32 0#32
  let main_v105 : IVec S2048x2048 32 := broadcastInDim S2048x2048 ![] bcast_S_S2048x2048 main_c_31
  let main_v106 : IVec S2048x2048 32 := addi main_v103 main_v105
  let main_v107 : IVec S2048x2048 1 := cmpi .eq main_v106 main_v104
  fn_part6 (F := F) main_arg0 main_arg1 main_c_3 main_c_5 main_c_9 main_c_10 main_v4 main_v14 main_v24 main_v34 main_v44 main_v85 main_v92 main_v102 main_v107

def fn_part4 {F : FTy → Type} [FloatOps F] (main_arg0 : FVec F S2048x512 .f32) (main_arg1 : IVec S2048 32) (main_c_1 : IVec S128 32) (main_c_3 : IVec S128 32) (main_c_5 : IVec S128 32) (main_c_8 : IVec S128 1) (main_c_9 : IVec S128 1) (main_c_10 : IVec S128 1) (main_v4 : IVec S2048 1) (main_v14 : IVec S2048x1 1) (main_v24 : IVec S2048x1 1) (main_v34 : IVec S2048x1 1) (main_v44 : IVec S2048x1 1) (main_v60 : FVec F S2048x2048 .f32) (main_values : FVec F S2048x100 .f32) (main_indices : IVec S2048x100 32) (main_v65 : IVec S2048x2048 1) (main_cst_24 : FVec F S_ .f32) (main_cst_25 : FVec F S_ .f32) : IVec S2048 1 × IVec S2048x1 1 × IVec S2048x1 1 × IVec S2048x1 1 × IVec S2048x1 1 × IVec S2048 1 × IVec S2048x2048 1 × IVec S2048 1 × IVec S2048x2048 1 × IVec S2048 1 × IVec S2048x2048 1 × IVec S2048 1 × IVec S2048x2048 1 :=
  let main_v66 : FVec F S2048x2048 .f32 := fn_where_0 (F := F) main_v65 main_cst_24 main_cst_25
  let main_v67 : FVec F S2048x2048 .f32 := id main_v66
  let main_cst_26 : FVec F S_ .f32 := constant S_ .f32 0x00000000#32
  let main_v68 : FVec F S2048 .f32 := (fun x v => Host.reduceAdd x v reducesTo_S2048x2048_S2048_d1 h_S_) main_v67 main_cst_26
  let main_c_27 : IVec S_ 32 := constantI S_ 32 0#32
  let main_v69 : IVec S2048x100 32 := broadcastInDim S2048x100 ![] bcast_S_S2048x100 main_c_27
  let main_v70 : IVec S2048x100 1 := cmpi .slt main_indices main_v69
  let main_c_28 : IVec S_ 32 := constantI S_ 32 2048#32
  let main_v71 : IVec S2048x100 32 := broadcastInDim S2048x100 ![] bcast_S_S2048x100 main_c_28
  let main_v72 : IVec S2048x100 32 := addi main_indices main_v71
  let main_v73 : IVec S2048x100 32 := select main_v70 main_v72 main_indices
  let main_v74 : IVec S2048x100x1 32 := broadcastInDim S2048x100x1 ![0, 1] bcast_S2048x100_S2048x100x1_0_1 main_v73
  let main_v75 : IVec S2048x100 32 := (fun x i => Host.gather gather_S2048_S2048x100x1_S2048x100_n_0_n_n_0_2_1 x i) main_arg1 main_v74
  let main_v76 : IVec S2048x1 32 := (extractStridedSlice S2048x1 ![0, 0] · slices_S2048x100_S2048x1_0_0) main_v75
  let main_v77 : IVec S2048 32 := shapeCast S2048 main_v76 shapeCasts_S2048x1_S2048
  let main_v78 : IVec S2048 1 := cmpi .eq main_v77 main_arg1
  let main_v79 : IVec S2048x1 32 := broadcastInDim S2048x1 ![0] bcast_S2048_S2048x1_0 main_arg1
  let main_v80 : IVec S1x2048 32 := broadcastInDim S1x2048 ![1] bcast_S2048_S1x2048_1 main_arg1
  let main_v81 : IVec S2048x2048 32 := broadcastInDim S2048x2048 ![0, 1] bcast_S2048x1_S2048x2048_0_1 main_v79
  let main_v82 : IVec S2048x2048 32 := broadcastInDim S2048x2048 ![0, 1] bcast_S1x2048_S2048x2048_0_1 main_v80
  let main_v83 : IVec S2048x2048 1 := cmpi .eq main_v81 main_v82
  let main_cst_29 : FVec F S_ .f32 := constant S_ .f32 0x42C80000#32
  let main_v84 : FVec F S2048 .f32 := broadcastInDim S2048 ![] bcast_S_S2048 main_cst_29
  let main_v85 : IVec S2048 1 := cmpf .oeq main_v68 main_v84
  fn_part5 (F := F) main_arg0 main_arg1 main_c_1 main_c_3 main_c_5 main_c_8 main_c_9 main_c_10 main_v4 main_v14 main_v24 main_v34 main_v44 main_v60 main_values main_v78 main_v83 main_v85

def fn_part3 {F : FTy → Type} [FloatOps F] (main_arg0 : FVec F S2048x512 .f32) (main_arg1 : IVec S2048 32) (main_c_1 : IVec S128 32) (main_c_3 : IVec S128 32) (main_c_5 : IVec S128 32) (main_c_8 : IVec S128 1) (main_c_9 : IVec S128 1) (main_c_10 : IVec S128 1) (main_v4 : IVec S2048 1) (main_v14 : IVec S2048x1 1) (main_v24 : IVec S2048x1 1) (main_v34 : IVec S2048x1 1) (main_v44 : IVec S2048x1 1) (main_v48 : IVec S128x1 32) : IVec S2048 1 × IVec S2048x1 1 × IVec S2048x1 1 × IVec S2048x1 1 × IVec S2048x1 1 × IVec S2048 1 × IVec S2048x2048 1 × IVec S2048 1 × IVec S2048x2048 1 × IVec S2048 1 × IVec S2048x2048 1 × IVec S2048 1 × IVec S2048x2048 1 :=
  let main_v49 : FVec F S2048x128 .f32 := (fun x i => Host.gather gather_S2048x512_S128x1_S2048x128_0_1_n_n_1_1_20481 x i) main_arg0 main_v48
  let main_v50 : FVec F S2048x1 .f32 := fn_norm (F := F) main_v49
  let main_v51 : FVec F S2048x128 .f32 := broadcastInDim S2048x128 ![0, 1] bcast_S2048x1_S2048x128_0_1 main_v50
  let main_v52 : FVec F S2048x128 .f32 := Host.divf main_v49 main_v51
  let main_v53 : FVec F S128x2048 .f32 := (transpose S128x2048 [1, 0] · transposes_S2048x128_S128x2048_1_0) main_v52
  let main_v54 : FVec F S2048x2048 .f32 := (fun l r => Host.dotGeneral dot_S2048x128_S128x2048_S2048x2048_1_0_0_1_n_n none l r) main_v52 main_v53
  let main_v55 : IVec S2048x2048 32 := iotaInDim S2048x2048 32 0
  let main_v56 : IVec S2048x2048 32 := iotaInDim S2048x2048 32 1
  let main_c_21 : IVec S_ 32 := constantI S_ 32 0#32
  let main_v57 : IVec S2048x2048 32 := broadcastInDim S2048x2048 ![] bcast_S_S2048x2048 main_c_21
  let main_v58 : IVec S2048x2048 32 := addi main_v55 main_v57
  let main_v59 : IVec S2048x2048 1 := cmpi .eq main_v58 main_v56
  let main_cst_22 : FVec F S_ .f32 := constant S_ .f32 0xFF800000#32
  let main_v60 : FVec F S2048x2048 .f32 := fn_where (F := F) main_v59 main_cst_22 main_v54
  let main_values : FVec F S2048x100 .f32 := (fun x => (Host.topK S2048x100 1 (FloatOps.cmpfTotal .gt) x sliceFits_S2048x2048_S2048x100).1) main_v60
  let main_indices : IVec S2048x100 32 := (fun x => (Host.topK S2048x100 1 (FloatOps.cmpfTotal .gt) x sliceFits_S2048x2048_S2048x100).2) main_v60
  let main_v61 : FVec F S2048x1 .f32 := (extractStridedSlice S2048x1 ![0, 99] · slices_S2048x100_S2048x1_0_99) main_values
  let main_cst_23 : FVec F S_ .f32 := constant S_ .f32 0x39900000#32
  let main_v62 : FVec F S2048x1 .f32 := broadcastInDim S2048x1 ![] bcast_S_S2048x1 main_cst_23
  let main_v63 : FVec F S2048x1 .f32 := subf main_v61 main_v62
  let main_v64 : FVec F S2048x2048 .f32 := broadcastInDim S2048x2048 ![0, 1] bcast_S2048x1_S2048x2048_0_1 main_v63
  let main_v65 : IVec S2048x2048 1 := cmpf .ogt main_v60 main_v64
  let main_cst_24 : FVec F S_ .f32 := constant S_ .f32 0x3F800000#32
  let main_cst_25 : FVec F S_ .f32 := constant S_ .f32 0x00000000#32
  fn_part4 (F := F) main_arg0 main_arg1 main_c_1 main_c_3 main_c_5 main_c_8 main_c_9 main_c_10 main_v4 main_v14 main_v24 main_v34 main_v44 main_v60 main_values main_indices main_v65 main_cst_24 main_cst_25

def fn_part2 {F : FTy → Type} [FloatOps F] (main_arg0 : FVec F S2048x512 .f32) (main_arg1 : IVec S2048 32) (main_c : IVec S128 32) (main_c_1 : IVec S128 32) (main_c_3 : IVec S128 32) (main_c_5 : IVec S128 32) (main_c_6 : IVec S128 1) (main_c_7 : IVec S128 1) (main_c_8 : IVec S128 1) (main_c_9 : IVec S128 1) (main_c_10 : IVec S128 1) (main_v4 : IVec S2048 1) (main_v14 : IVec S2048x1 1) (main_v24 : IVec S2048x1 1) (main_v28 : IVec S128x1 32) : IVec S2048 1 × IVec S2048x1 1 × IVec S2048x1 1 × IVec S2048x1 1 × IVec S2048x1 1 × IVec S2048 1 × IVec S2048x2048 1 × IVec S2048 1 × IVec S2048x2048 1 × IVec S2048 1 × IVec S2048x2048 1 × IVec S2048 1 × IVec S2048x2048 1 :=
  let main_v29 : FVec F S2048x128 .f32 := (fun x i => Host.gather gather_S2048x512_S128x1_S2048x128_0_1_n_n_1_1_20481 x i) main_arg0 main_v28
  let main_v30 : FVec F S2048x1 .f32 := fn_norm (F := F) main_v29
  let main_v31 : FVec F S2048x128 .f32 := broadcastInDim S2048x128 ![0, 1] bcast_S2048x1_S2048x128_0_1 main_v30
  let main_v32 : FVec F S2048x128 .f32 := Host.divf main_v29 main_v31
  let main_cst_17 : FVec F S_ .f32 := constant S_ .f32 0x00000000#32
  let main_v33 : FVec F S2048x1 .f32 := broadcastInDim S2048x1 ![] bcast_S_S2048x1 main_cst_17
  let main_v34 : IVec S2048x1 1 := cmpf .ogt main_v30 main_v33
  let main_c_18 : IVec S_ 32 := constantI S_ 32 512#32
  let main_v35 : IVec S128 32 := broadcastInDim S128 ![] bcast_S_S128 main_c_18
  let main_v36 : IVec S128 32 := addi main_c_5 main_v35
  let main_v37 : IVec S128 32 := select main_c_6 main_v36 main_c_5
  let main_v38 : IVec S128x1 32 := broadcastInDim S128x1 ![0] bcast_S128_S128x1_0 main_v37
  let main_v39 : FVec F S2048x128 .f32 := (fun x i => Host.gather gather_S2048x512_S128x1_S2048x128_0_1_n_n_1_1_20481 x i) main_arg0 main_v38
  let main_v40 : FVec F S2048x1 .f32 := fn_norm (F := F) main_v39
  let main_v41 : FVec F S2048x128 .f32 := broadcastInDim S2048x128 ![0, 1] bcast_S2048x1_S2048x128_0_1 main_v40
  let main_v42 : FVec F S2048x128 .f32 := Host.divf main_v39 main_v41
  let main_cst_19 : FVec F S_ .f32 := constant S_ .f32 0x00000000#32
  let main_v43 : FVec F S2048x1 .f32 := broadcastInDim S2048x1 ![] bcast_S_S2048x1 main_cst_19
  let main_v44 : IVec S2048x1 1 := cmpf .ogt main_v40 main_v43
  let main_c_20 : IVec S_ 32 := constantI S_ 32 512#32
  let main_v45 : IVec S128 32 := broadcastInDim S128 ![] bcast_S_S128 main_c_20
  let main_v46 : IVec S128 32 := addi main_c main_v45
  let main_v47 : IVec S128 32 := select main_c_7 main_v46 main_c
  let main_v48 : IVec S128x1 32 := broadcastInDim S128x1 ![0] bcast_S128_S128x1_0 main_v47
  fn_part3 (F := F) main_arg0 main_arg1 main_c_1 main_c_3 main_c_5 main_c_8 main_c_9 main_c_10 main_v4 main_v14 main_v24 main_v34 main_v44 main_v48

def fn_part1 {F : FTy → Type} [FloatOps F] (main_arg0 : FVec F S2048x512 .f32) (main_arg1 : IVec S2048 32) (main_c : IVec S128 32) (main_c_1 : IVec S128 32) (main_c_2 : IVec S128 1) (main_c_3 : IVec S128 32) (main_c_4 : IVec S128 1) (main_c_5 : IVec S128 32) (main_c_6 : IVec S128 1) (main_c_7 : IVec S128 1) (main_c_8 : IVec S128 1) (main_c_9 : IVec S128 1) (main_c_10 : IVec S128 1) (main_v4 : IVec S2048 1) (main_v8 : IVec S128x1 32) : IVec S2048 1 × IVec S2048x1 1 × IVec S2048x1 1 × IVec S2048x1 1 × IVec S2048x1 1 × IVec S2048 1 × IVec S2048x2048 1 × IVec S2048 1 × IVec S2048x2048 1 × IVec S2048 1 × IVec S2048x2048 1 × IVec S2048 1 × IVec S2048x2048 1 :=
  let main_v9 : FVec F S2048x128 .f32 := (fun x i => Host.gather gather_S2048x512_S128x1_S2048x128_0_1_n_n_1_1_20481 x i) main_arg0 main_v8
  let main_v10 : FVec F S2048x1 .f32 := fn_norm (F := F) main_v9
  let main_v11 : FVec F S2048x128 .f32 := broadcastInDim S2048x128 ![0, 1] bcast_S2048x1_S2048x128_0_1 main_v10
  let main_v12 : FVec F S2048x128 .f32 := Host.divf main_v9 main_v11
  let main_cst : FVec F S_ .f32 := constant S_ .f32 0x00000000#32
  let main_v13 : FVec F S2048x1 .f32 := broadcastInDim S2048x1 ![] bcast_S_S2048x1 main_cst
  let main_v14 : IVec S2048x1 1 := cmpf .ogt main_v10 main_v13
  let main_c_14 : IVec S_ 32 := constantI S_ 32 512#32
  let main_v15 : IVec S128 32 := broadcastInDim S128 ![] bcast_S_S128 main_c_14
  let main_v16 : IVec S128 32 := addi main_c_1 main_v15
  let main_v17 : IVec S128 32 := select main_c_2 main_v16 main_c_1
  let main_v18 : IVec S128x1 32 := broadcastInDim S128x1 ![0] bcast_S128_S128x1_0 main_v17
  let main_v19 : FVec F S2048x128 .f32 := (fun x i => Host.gather gather_S2048x512_S128x1_S2048x128_0_1_n_n_1_1_20481 x i) main_arg0 main_v18
  let main_v20 : FVec F S2048x1 .f32 := fn_norm (F := F) main_v19
  let main_v21 : FVec F S2048x128 .f32 := broadcastInDim S2048x128 ![0, 1] bcast_S2048x1_S2048x128_0_1 main_v20
  let main_v22 : FVec F S2048x128 .f32 := Host.divf main_v19 main_v21
  let main_cst_15 : FVec F S_ .f32 := constant S_ .f32 0x00000000#32
  let main_v23 : FVec F S2048x1 .f32 := broadcastInDim S2048x1 ![] bcast_S_S2048x1 main_cst_15
  let main_v24 : IVec S2048x1 1 := cmpf .ogt main_v20 main_v23
  let main_c_16 : IVec S_ 32 := constantI S_ 32 512#32
  let main_v25 : IVec S128 32 := broadcastInDim S128 ![] bcast_S_S128 main_c_16
  let main_v26 : IVec S128 32 := addi main_c_3 main_v25
  let main_v27 : IVec S128 32 := select main_c_4 main_v26 main_c_3
  let main_v28 : IVec S128x1 32 := broadcastInDim S128x1 ![0] bcast_S128_S128x1_0 main_v27
  fn_part2 (F := F) main_arg0 main_arg1 main_c main_c_1 main_c_3 main_c_5 main_c_6 main_c_7 main_c_8 main_c_9 main_c_10 main_v4 main_v14 main_v24 main_v28

def fn {F : FTy → Type} [FloatOps F] (main_arg0 : FVec F S2048x512 .f32) (main_arg1 : IVec S2048 32) : IVec S2048 1 × IVec S2048x1 1 × IVec S2048x1 1 × IVec S2048x1 1 × IVec S2048x1 1 × IVec S2048 1 × IVec S2048x2048 1 × IVec S2048 1 × IVec S2048x2048 1 × IVec S2048 1 × IVec S2048x2048 1 × IVec S2048 1 × IVec S2048x2048 1 :=
  let main_c : IVec S128 32 := fun i => lit0 (S128.rowMajor i)
  let main_c_0 : IVec S128 1 := constantI S128 1 0#1
  let main_c_1 : IVec S128 32 := fun i => lit1 (S128.rowMajor i)
  let main_c_2 : IVec S128 1 := constantI S128 1 0#1
  let main_c_3 : IVec S128 32 := fun i => lit2 (S128.rowMajor i)
  let main_c_4 : IVec S128 1 := constantI S128 1 0#1
  let main_c_5 : IVec S128 32 := fun i => lit3 (S128.rowMajor i)
  let main_c_6 : IVec S128 1 := constantI S128 1 0#1
  let main_c_7 : IVec S128 1 := constantI S128 1 0#1
  let main_c_8 : IVec S128 1 := constantI S128 1 0#1
  let main_c_9 : IVec S128 1 := constantI S128 1 0#1
  let main_c_10 : IVec S128 1 := constantI S128 1 0#1
  let main_c_11 : IVec S_ 32 := constantI S_ 32 0#32
  let main_v0 : IVec S2048 32 := broadcastInDim S2048 ![] bcast_S_S2048 main_c_11
  let main_v1 : IVec S2048 1 := cmpi .sge main_arg1 main_v0
  let main_c_12 : IVec S_ 32 := constantI S_ 32 100#32
  let main_v2 : IVec S2048 32 := broadcastInDim S2048 ![] bcast_S_S2048 main_c_12
  let main_v3 : IVec S2048 1 := cmpi .slt main_arg1 main_v2
  let main_v4 : IVec S2048 1 := andi main_v1 main_v3
  let main_c_13 : IVec S_ 32 := constantI S_ 32 512#32
  let main_v5 : IVec S128 32 := broadcastInDim S128 ![] bcast_S_S128 main_c_13
  let main_v6 : IVec S128 32 := addi main_c main_v5
  let main_v7 : IVec S128 32 := select main_c_0 main_v6 main_c
  let main_v8 : IVec S128x1 32 := broadcastInDim S128x1 ![0] bcast_S128_S128x1_0 main_v7
  fn_part1 (F := F) main_arg0 main_arg1 main_c main_c_1 main_c_2 main_c_3 main_c_4 main_c_5 main_c_6 main_c_7 main_c_8 main_c_9 main_c_10 main_v4 main_v8
-- ==== Kernel.lean ====
abbrev S2048x512 : Shape := ⟨2, ![2048, 512]⟩
abbrev S2048 : Shape := ⟨1, ![2048]⟩
abbrev S128 : Shape := ⟨1, ![128]⟩
abbrev S_ : Shape := ⟨0, ![]⟩
abbrev S128x1 : Shape := ⟨2, ![128, 1]⟩
abbrev S2048x128 : Shape := ⟨2, ![2048, 128]⟩
abbrev S2048x1 : Shape := ⟨2, ![2048, 1]⟩
abbrev S1x2048 : Shape := ⟨2, ![1, 2048]⟩
abbrev S1x128 : Shape := ⟨2, ![1, 128]⟩
abbrev S1024x1 : Shape := ⟨2, ![1024, 1]⟩
abbrev S1024x128 : Shape := ⟨2, ![1024, 128]⟩
abbrev S1024x2048 : Shape := ⟨2, ![1024, 2048]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S1x1024x2048 : Shape := ⟨3, ![1, 1024, 2048]⟩
abbrev S1x1x1 : Shape := ⟨3, ![1, 1, 1]⟩
abbrev S100 : Shape := ⟨1, ![100]⟩
abbrev S1x100 : Shape := ⟨2, ![1, 100]⟩
abbrev S2048x100 : Shape := ⟨2, ![2048, 100]⟩

abbrev nBuf : Space → Nat
  | .hbm => 117
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S128, .i32⟩
  | .hbm, ⟨3, _⟩ => ⟨S128, .i32⟩
  | .hbm, ⟨4, _⟩ => ⟨S128, .i32⟩
  | .hbm, ⟨5, _⟩ => ⟨S128, .i32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S128x1, .i32⟩
  | .hbm, ⟨14, _⟩ => ⟨S2048x128, .f32⟩
  | .hbm, ⟨15, _⟩ => ⟨S2048x128, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S2048x1, .f32⟩
  | .hbm, ⟨20, _⟩ => ⟨S2048x128, .f32⟩
  | .hbm, ⟨21, _⟩ => ⟨S2048x128, .f32⟩
  | .hbm, ⟨22, _⟩ => ⟨S2048x128, .bf16⟩
  | .hbm, ⟨23, _⟩ => ⟨S_, .i32⟩
  | .hbm, ⟨24, _⟩ => ⟨S128, .i32⟩
  | .hbm, ⟨25, _⟩ => ⟨S128, .i1⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S128x1, .i32⟩
  | .hbm, ⟨31, _⟩ => ⟨S2048x128, .f32⟩
  | .hbm, ⟨32, _⟩ => ⟨S2048x128, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1, .f32⟩
  | .hbm, ⟨37, _⟩ => ⟨S2048x128, .f32⟩
  | .hbm, ⟨38, _⟩ => ⟨S2048x128, .f32⟩
  | .hbm, ⟨39, _⟩ => ⟨S2048x128, .bf16⟩
  | .hbm, ⟨40, _⟩ => ⟨S_, .i32⟩
  | .hbm, ⟨41, _⟩ => ⟨S128, .i32⟩
  | .hbm, ⟨42, _⟩ => ⟨S128, .i1⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S128, .i32⟩
  | .hbm, ⟨47, _⟩ => ⟨S128x1, .i32⟩
  | .hbm, ⟨48, _⟩ => ⟨S2048x128, .f32⟩
  | .hbm, ⟨49, _⟩ => ⟨S2048x128, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S2048x1, .f32⟩
  | .hbm, ⟨54, _⟩ => ⟨S2048x128, .f32⟩
  | .hbm, ⟨55, _⟩ => ⟨S2048x128, .f32⟩
  | .hbm, ⟨56, _⟩ => ⟨S2048x128, .bf16⟩
  | .hbm, ⟨57, _⟩ => ⟨S_, .i32⟩
  | .hbm, ⟨58, _⟩ => ⟨S128, .i32⟩
  | .hbm, ⟨59, _⟩ => ⟨S128, .i1⟩
  | .hbm, ⟨60, _⟩ => ⟨S_, .i32⟩
  | .hbm, ⟨61, _⟩ => ⟨S128, .i32⟩
  | .hbm, ⟨62, _⟩ => ⟨S128, .i32⟩
  | .hbm, ⟨63, _⟩ => ⟨S128, .i32⟩
  | .hbm, ⟨64, _⟩ => ⟨S128x1, .i32⟩
  | .hbm, ⟨65, _⟩ => ⟨S2048x128, .f32⟩
  | .hbm, ⟨66, _⟩ => ⟨S2048x128, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S2048x1, .f32⟩
  | .hbm, ⟨71, _⟩ => ⟨S2048x128, .f32⟩
  | .hbm, ⟨72, _⟩ => ⟨S2048x128, .f32⟩
  | .hbm, ⟨73, _⟩ => ⟨S2048x128, .bf16⟩
  | .hbm, ⟨74, _⟩ => ⟨S2048x512, .bf16⟩
  | .hbm, ⟨75, _⟩ => ⟨S2048x1, .i32⟩
  | .hbm, ⟨76, _⟩ => ⟨S1x2048, .i32⟩
  | .hbm, ⟨77, _⟩ => ⟨S1x128, .f32⟩
  | .hbm, ⟨78, _⟩ => ⟨S128, .f32⟩
  | .hbm, ⟨79, _⟩ => ⟨S2048x1, .i32⟩
  | .hbm, ⟨80, _⟩ => ⟨S100, .i32⟩
  | .hbm, ⟨81, _⟩ => ⟨S1x100, .i32⟩
  | .hbm, ⟨82, _⟩ => ⟨S2048x100, .i32⟩
  | .hbm, ⟨83, _⟩ => ⟨S2048x100, .i32⟩
  | .hbm, ⟨84, _⟩ => ⟨S2048x100, .i1⟩
  | .hbm, ⟨85, _⟩ => ⟨S2048x100, .f32⟩
  | .hbm, ⟨86, _⟩ => ⟨S_, .f32⟩
  | .hbm, ⟨87, _⟩ => ⟨S100, .f32⟩
  | .hbm, ⟨88, _⟩ => ⟨S100, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S1, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S1, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S1, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S1, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .local _ .vmem, ⟨0, _⟩ => ⟨S2048x128, .bf16⟩
  | .local _ .vmem, ⟨1, _⟩ => ⟨S2048x128, .bf16⟩
  | .local _ .vmem, ⟨2, _⟩ => ⟨S1024x1, .i32⟩
  | .local _ .vmem, ⟨3, _⟩ => ⟨S1024x1, .i32⟩
  | .local _ .vmem, ⟨4, _⟩ => ⟨S1x2048, .i32⟩
  | .local _ .vmem, ⟨5, _⟩ => ⟨S1x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_v0 : Ref sig .tc := ⟨.hbm, 7, rfl⟩
abbrev main_v1 : Ref sig .tc := ⟨.hbm, 8, rfl⟩
abbrev main_c_4 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_5 : Ref sig .tc := ⟨.hbm, 23, rfl⟩
abbrev main_v11 : Ref sig .tc := ⟨.hbm, 24, rfl⟩
abbrev main_v12 : Ref sig .tc := ⟨.hbm, 25, rfl⟩
abbrev main_c_6 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call1_v0 : Ref sig .tc := ⟨.hbm, 32, rfl⟩
abbrev main_call1_cst : Ref sig .tc := ⟨.hbm, 33, rfl⟩
abbrev main_call1_v1 : Ref sig .tc := ⟨.hbm, 34, rfl⟩
abbrev main_call1_v2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_7 : Ref sig .tc := ⟨.hbm, 40, rfl⟩
abbrev main_v22 : Ref sig .tc := ⟨.hbm, 41, rfl⟩
abbrev main_v23 : Ref sig .tc := ⟨.hbm, 42, rfl⟩
abbrev main_c_8 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call2_v0 : Ref sig .tc := ⟨.hbm, 49, rfl⟩
abbrev main_call2_cst : Ref sig .tc := ⟨.hbm, 50, rfl⟩
abbrev main_call2_v1 : Ref sig .tc := ⟨.hbm, 51, rfl⟩
abbrev main_call2_v2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_9 : Ref sig .tc := ⟨.hbm, 57, rfl⟩
abbrev main_v33 : Ref sig .tc := ⟨.hbm, 58, rfl⟩
abbrev main_v34 : Ref sig .tc := ⟨.hbm, 59, rfl⟩
abbrev main_c_10 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call3_v0 : Ref sig .tc := ⟨.hbm, 66, rfl⟩
abbrev main_call3_cst : Ref sig .tc := ⟨.hbm, 67, rfl⟩
abbrev main_call3_v1 : Ref sig .tc := ⟨.hbm, 68, rfl⟩
abbrev main_call3_v2 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_cst_13 : Ref sig .tc := ⟨.hbm, 93, rfl⟩
abbrev main_v60 : Ref sig .tc := ⟨.hbm, 94, rfl⟩
abbrev main_cst_14 : Ref sig .tc := ⟨.hbm, 95, rfl⟩
abbrev main_v61 : Ref sig .tc := ⟨.hbm, 96, rfl⟩
abbrev main_cst_15 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_16 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_17 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_18 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_19 : Ref sig .tc := ⟨.hbm, 114, rfl⟩
abbrev main_v75 : Ref sig .tc := ⟨.hbm, 115, rfl⟩
abbrev main_v76 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![4, 2], ![false, false]⟩

def k0_off1 (i : grid0.Coords) : Fin 2 → Nat :=
  let arg1 : BitVec 32 := BitVec.ofNat 32 (i 1).val
  let c1024_i32 : BitVec 32 := 1024#32
  let v5 : BitVec 32 := Scalar.muli arg1 c1024_i32
  let v8 : Index := Scalar.indexCast v5
  let c0_3 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== ReferenceIdeal.lean ====
abbrev S2048x512 : Shape := ⟨2, ![2048, 512]⟩
abbrev S2048 : Shape := ⟨1, ![2048]⟩
abbrev S128 : Shape := ⟨1, ![128]⟩
abbrev S_ : Shape := ⟨0, ![]⟩
abbrev S128x1 : Shape := ⟨2, ![128, 1]⟩
abbrev S2048x128 : Shape := ⟨2, ![2048, 128]⟩
abbrev S2048x1 : Shape := ⟨2, ![2048, 1]⟩
abbrev S128x2048 : Shape := ⟨2, ![128, 2048]⟩
abbrev S2048x2048 : Shape := ⟨2, ![2048, 2048]⟩
abbrev S2048x100 : Shape := ⟨2, ![2048, 100]⟩
abbrev S2048x100x1 : Shape := ⟨3, ![2048, 100, 1]⟩
abbrev S1x2048 : Shape := ⟨2, ![1, 2048]⟩
abbrev S8192 : Shape := ⟨1, ![8192]⟩
abbrev S1 : Shape := ⟨1, ![1]⟩
abbrev S4 : Shape := ⟨1, ![4]⟩

abbrev nBuf : Space → Nat
  | .hbm => 486
  | .vmem => 0
  | .smem => 0
  | _ => 0

abbrev hbmTy0_0 (i : Nat) : BufTy := match i % 128 with
  | 0 => ⟨S2048x512, .f32⟩
  | 1 => ⟨S2048, .i32⟩
  | 2 => ⟨S128, .i32⟩
  | 3 => ⟨S128, .i1⟩
  | 4 => ⟨S128, .i32⟩
  | 5 => ⟨S128, .i1⟩
  | 6 => ⟨S128, .i32⟩
  | 7 => ⟨S128, .i1⟩
  | 8 => ⟨S128, .i32⟩
  | 9 => ⟨S128, .i1⟩
  | 10 => ⟨S_, .i32⟩
  | 11 => ⟨S128, .i32⟩
  | 12 => ⟨S128, .i32⟩
  | 13 => ⟨S128, .i32⟩
  | 14 => ⟨S128x1, .i32⟩
  | 15 => ⟨S2048x128, .f32⟩
  | 16 => ⟨S2048x128, .f32⟩
  | 17 => ⟨S_, .f32⟩
  | 18 => ⟨S2048, .f32⟩
  | 19 => ⟨S2048x1, .f32⟩
  | 20 => ⟨S2048x1, .f32⟩
  | 21 => ⟨S2048x128, .f32⟩
  | 22 => ⟨S2048x128, .f32⟩
  | 23 => ⟨S128x2048, .f32⟩
  | 24 => ⟨S2048x2048, .f32⟩
  | 25 => ⟨S2048x2048, .i32⟩
  | 26 => ⟨S2048x2048, .i32⟩
  | 27 => ⟨S_, .i32⟩
  | 28 => ⟨S2048x2048, .i32⟩
  | 29 => ⟨S2048x2048, .i32⟩
  | 30 => ⟨S2048x2048, .i1⟩
  | 31 => ⟨S_, .f32⟩
  | 32 => ⟨S_, .f32⟩
  | 33 => ⟨S2048x2048, .f32⟩
  | 34 => ⟨S2048x2048, .f32⟩
  | 35 => ⟨S2048x100, .f32⟩
  | 36 => ⟨S2048x100, .i32⟩
  | 37 => ⟨S_, .i32⟩
  | 38 => ⟨S2048x100, .i32⟩
  | 39 => ⟨S2048x100, .i1⟩
  | 40 => ⟨S_, .i32⟩
  | 41 => ⟨S2048x100, .i32⟩
  | 42 => ⟨S2048x100, .i32⟩
  | 43 => ⟨S2048x100, .i32⟩
  | 44 => ⟨S2048x100x1, .i32⟩
  | 45 => ⟨S2048x100, .i32⟩
  | 46 => ⟨S2048x1, .i32⟩
  | 47 => ⟨S2048x100, .i32⟩
  | 48 => ⟨S2048x100, .i1⟩
  | 49 => ⟨S_, .f32⟩
  | 50 => ⟨S2048x100, .f32⟩
  | 51 => ⟨S2048x100, .f32⟩
  | 52 => ⟨S_, .f32⟩
  | 53 => ⟨S2048, .f32⟩
  | 54 => ⟨S2048x1, .f32⟩
  | 55 => ⟨S2048x100, .f32⟩
  | 56 => ⟨S2048x100, .f32⟩
  | 57 => ⟨S2048x100, .f32⟩
  | 58 => ⟨S_, .f32⟩
  | 59 => ⟨S2048, .f32⟩
  | 60 => ⟨S_, .f32⟩
  | 61 => ⟨S_, .f32⟩
  | 62 => ⟨S2048x100, .f32⟩
  | 63 => ⟨S2048x100, .f32⟩
  | 64 => ⟨S_, .f32⟩
  | 65 => ⟨S2048, .f32⟩
  | 66 => ⟨S_, .f32⟩
  | 67 => ⟨S2048, .f32⟩
  | 68 => ⟨S2048, .f32⟩
  | 69 => ⟨S_, .f32⟩
  | 70 => ⟨S2048, .f32⟩
  | 71 => ⟨S2048, .f32⟩
  | 72 => ⟨S2048, .f32⟩
  | 73 => ⟨S2048, .f32⟩
  | 74 => ⟨S2048, .f32⟩
  | 75 => ⟨S2048x1, .i32⟩
  | 76 => ⟨S2048, .i32⟩
  | 77 => ⟨S2048, .i1⟩
  | 78 => ⟨S2048, .f32⟩
  | 79 => ⟨S_, .f32⟩
  | 80 => ⟨S_, .f32⟩
  | 81 => ⟨S_, .f32⟩
  | 82 => ⟨S_, .f32⟩
  | 83 => ⟨S2048x1, .i32⟩
  | 84 => ⟨S1x2048, .i32⟩
  | 85 => ⟨S2048x2048, .i32⟩
  | 86 => ⟨S2048x2048, .i32⟩
  | 87 => ⟨S2048x2048, .i1⟩
  | 88 => ⟨S2048x2048, .i1⟩
  | 89 => ⟨S2048x2048, .i1⟩
  | 90 => ⟨S2048x1, .i32⟩
  | 91 => ⟨S1x2048, .i32⟩
  | 92 => ⟨S2048x2048, .i32⟩
  | 93 => ⟨S2048x2048, .i32⟩
  | 94 => ⟨S2048x2048, .i1⟩
  | 95 => ⟨S_, .f32⟩
  | 96 => ⟨S_, .f32⟩
  | 97 => ⟨S2048x2048, .f32⟩
  | 98 => ⟨S2048x2048, .f32⟩
  | 99 => ⟨S_, .f32⟩
  | 100 => ⟨S_, .f32⟩
  | 101 => ⟨S2048x2048, .i32⟩
  | 102 => ⟨S_, .i32⟩
  | 103 => ⟨S_, .i32⟩
  | 104 => ⟨S_, .i32⟩
  | 105 => ⟨S_, .i32⟩
  | 106 => ⟨S_, .f32⟩
  | 107 => ⟨S_, .f32⟩
  | 108 => ⟨S_, .f32⟩
  | 109 => ⟨S_, .f32⟩
  | 110 => ⟨S2048x2048, .f32⟩
  | 111 => ⟨S2048x2048, .f32⟩
  | 112 => ⟨S_, .f32⟩
  | 113 => ⟨S_, .f32⟩
  | 114 => ⟨S2048x2048, .i32⟩
  | 115 => ⟨S_, .i32⟩
  | 116 => ⟨S_, .i32⟩
  | 117 => ⟨S_, .i32⟩
  | 118 => ⟨S_, .i32⟩
  | 119 => ⟨S_, .f32⟩
  | 120 => ⟨S_, .f32⟩
  | 121 => ⟨S_, .i32⟩
  | 122 => ⟨S128, .i32⟩
  | 123 => ⟨S128, .i32⟩
  | 124 => ⟨S128, .i32⟩
  | 125 => ⟨S128x1, .i32⟩
  | 126 => ⟨S2048x128, .f32⟩
  | 127 => ⟨S2048x128, .f32⟩
  | _ => ⟨S2048x512, .f32⟩

abbrev hbmTy0_1 (i : Nat) : BufTy := match i % 128 with
  | 0 => ⟨S_, .f32⟩
  | 1 => ⟨S2048, .f32⟩
  | 2 => ⟨S2048x1, .f32⟩
  | 3 => ⟨S2048x1, .f32⟩
  | 4 => ⟨S2048x128, .f32⟩
  | 5 => ⟨S2048x128, .f32⟩
  | 6 => ⟨S128x2048, .f32⟩
  | 7 => ⟨S2048x2048, .f32⟩
  | 8 => ⟨S2048x2048, .i32⟩
  | 9 => ⟨S2048x2048, .i32⟩
  | 10 => ⟨S_, .i32⟩
  | 11 => ⟨S2048x2048, .i32⟩
  | 12 => ⟨S2048x2048, .i32⟩
  | 13 => ⟨S2048x2048, .i1⟩
  | 14 => ⟨S_, .f32⟩
  | 15 => ⟨S_, .f32⟩
  | 16 => ⟨S2048x2048, .f32⟩
  | 17 => ⟨S2048x2048, .f32⟩
  | 18 => ⟨S2048x100, .f32⟩
  | 19 => ⟨S2048x100, .i32⟩
  | 20 => ⟨S_, .i32⟩
  | 21 => ⟨S2048x100, .i32⟩
  | 22 => ⟨S2048x100, .i1⟩
  | 23 => ⟨S_, .i32⟩
  | 24 => ⟨S2048x100, .i32⟩
  | 25 => ⟨S2048x100, .i32⟩
  | 26 => ⟨S2048x100, .i32⟩
  | 27 => ⟨S2048x100x1, .i32⟩
  | 28 => ⟨S2048x100, .i32⟩
  | 29 => ⟨S2048x1, .i32⟩
  | 30 => ⟨S2048x100, .i32⟩
  | 31 => ⟨S2048x100, .i1⟩
  | 32 => ⟨S_, .f32⟩
  | 33 => ⟨S2048x100, .f32⟩
  | 34 => ⟨S2048x100, .f32⟩
  | 35 => ⟨S_, .f32⟩
  | 36 => ⟨S2048, .f32⟩
  | 37 => ⟨S2048x1, .f32⟩
  | 38 => ⟨S2048x100, .f32⟩
  | 39 => ⟨S2048x100, .f32⟩
  | 40 => ⟨S2048x100, .f32⟩
  | 41 => ⟨S_, .f32⟩
  | 42 => ⟨S2048, .f32⟩
  | 43 => ⟨S_, .f32⟩
  | 44 => ⟨S_, .f32⟩
  | 45 => ⟨S2048x100, .f32⟩
  | 46 => ⟨S2048x100, .f32⟩
  | 47 => ⟨S_, .f32⟩
  | 48 => ⟨S2048, .f32⟩
  | 49 => ⟨S_, .f32⟩
  | 50 => ⟨S2048, .f32⟩
  | 51 => ⟨S2048, .f32⟩
  | 52 => ⟨S_, .f32⟩
  | 53 => ⟨S2048, .f32⟩
  | 54 => ⟨S2048, .f32⟩
  | 55 => ⟨S2048, .f32⟩
  | 56 => ⟨S2048, .f32⟩
  | 57 => ⟨S2048, .f32⟩
  | 58 => ⟨S2048x1, .i32⟩
  | 59 => ⟨S2048, .i32⟩
  | 60 => ⟨S2048, .i1⟩
  | 61 => ⟨S2048, .f32⟩
  | 62 => ⟨S_, .f32⟩
  | 63 => ⟨S_, .f32⟩
  | 64 => ⟨S_, .f32⟩
  | 65 => ⟨S_, .f32⟩
  | 66 => ⟨S2048x1, .i32⟩
  | 67 => ⟨S1x2048, .i32⟩
  | 68 => ⟨S2048x2048, .i32⟩
  | 69 => ⟨S2048x2048, .i32⟩
  | 70 => ⟨S2048x2048, .i1⟩
  | 71 => ⟨S2048x2048, .i1⟩
  | 72 => ⟨S2048x2048, .i1⟩
  | 73 => ⟨S2048x1, .i32⟩
  | 74 => ⟨S1x2048, .i32⟩
  | 75 => ⟨S2048x2048, .i32⟩
  | 76 => ⟨S2048x2048, .i32⟩
  | 77 => ⟨S2048x2048, .i1⟩
  | 78 => ⟨S_, .f32⟩
  | 79 => ⟨S_, .f32⟩
  | 80 => ⟨S2048x2048, .f32⟩
  | 81 => ⟨S2048x2048, .f32⟩
  | 82 => ⟨S_, .f32⟩
  | 83 => ⟨S_, .f32⟩
  | 84 => ⟨S2048x2048, .i32⟩
  | 85 => ⟨S_, .i32⟩
  | 86 => ⟨S_, .i32⟩
  | 87 => ⟨S_, .i32⟩
  | 88 => ⟨S_, .i32⟩
  | 89 => ⟨S_, .f32⟩
  | 90 => ⟨S_, .f32⟩
  | 91 => ⟨S_, .f32⟩
  | 92 => ⟨S_, .f32⟩
  | 93 => ⟨S2048x2048, .f32⟩
  | 94 => ⟨S2048x2048, .f32⟩
  | 95 => ⟨S_, .f32⟩
  | 96 => ⟨S_, .f32⟩
  | 97 => ⟨S2048x2048, .i32⟩
  | 98 => ⟨S_, .i32⟩
  | 99 => ⟨S_, .i32⟩
  | 100 => ⟨S_, .i32⟩
  | 101 => ⟨S_, .i32⟩
  | 102 => ⟨S_, .f32⟩
  | 103 => ⟨S_, .f32⟩
  | 104 => ⟨S_, .i32⟩
  | 105 => ⟨S128, .i32⟩
  | 106 => ⟨S128, .i32⟩
  | 107 => ⟨S128, .i32⟩
  | 108 => ⟨S128x1, .i32⟩
  | 109 => ⟨S2048x128, .f32⟩
  | 110 => ⟨S2048x128, .f32⟩
  | 111 => ⟨S_, .f32⟩
  | 112 => ⟨S2048, .f32⟩
  | 113 => ⟨S2048x1, .f32⟩
  | 114 => ⟨S2048x1, .f32⟩
  | 115 => ⟨S2048x128, .f32⟩
  | 116 => ⟨S2048x128, .f32⟩
  | 117 => ⟨S128x2048, .f32⟩
  | 118 => ⟨S2048x2048, .f32⟩
  | 119 => ⟨S2048x2048, .i32⟩
  | 120 => ⟨S2048x2048, .i32⟩
  | 121 => ⟨S_, .i32⟩
  | 122 => ⟨S2048x2048, .i32⟩
  | 123 => ⟨S2048x2048, .i32⟩
  | 124 => ⟨S2048x2048, .i1⟩
  | 125 => ⟨S_, .f32⟩
  | 126 => ⟨S_, .f32⟩
  | 127 => ⟨S2048x2048, .f32⟩
  | _ => ⟨S2048x512, .f32⟩

abbrev hbmTy0_2 (i : Nat) : BufTy := match i % 128 with
  | 0 => ⟨S2048x2048, .f32⟩
  | 1 => ⟨S2048x100, .f32⟩
  | 2 => ⟨S2048x100, .i32⟩
  | 3 => ⟨S_, .i32⟩
  | 4 => ⟨S2048x100, .i32⟩
  | 5 => ⟨S2048x100, .i1⟩
  | 6 => ⟨S_, .i32⟩
  | 7 => ⟨S2048x100, .i32⟩
  | 8 => ⟨S2048x100, .i32⟩
  | 9 => ⟨S2048x100, .i32⟩
  | 10 => ⟨S2048x100x1, .i32⟩
  | 11 => ⟨S2048x100, .i32⟩
  | 12 => ⟨S2048x1, .i32⟩
  | 13 => ⟨S2048x100, .i32⟩
  | 14 => ⟨S2048x100, .i1⟩
  | 15 => ⟨S_, .f32⟩
  | 16 => ⟨S2048x100, .f32⟩
  | 17 => ⟨S2048x100, .f32⟩
  | 18 => ⟨S_, .f32⟩
  | 19 => ⟨S2048, .f32⟩
  | 20 => ⟨S2048x1, .f32⟩
  | 21 => ⟨S2048x100, .f32⟩
  | 22 => ⟨S2048x100, .f32⟩
  | 23 => ⟨S2048x100, .f32⟩
  | 24 => ⟨S_, .f32⟩
  | 25 => ⟨S2048, .f32⟩
  | 26 => ⟨S_, .f32⟩
  | 27 => ⟨S_, .f32⟩
  | 28 => ⟨S2048x100, .f32⟩
  | 29 => ⟨S2048x100, .f32⟩
  | 30 => ⟨S_, .f32⟩
  | 31 => ⟨S2048, .f32⟩
  | 32 => ⟨S_, .f32⟩
  | 33 => ⟨S2048, .f32⟩
  | 34 => ⟨S2048, .f32⟩
  | 35 => ⟨S_, .f32⟩
  | 36 => ⟨S2048, .f32⟩
  | 37 => ⟨S2048, .f32⟩
  | 38 => ⟨S2048, .f32⟩
  | 39 => ⟨S2048, .f32⟩
  | 40 => ⟨S2048, .f32⟩
  | 41 => ⟨S2048x1, .i32⟩
  | 42 => ⟨S2048, .i32⟩
  | 43 => ⟨S2048, .i1⟩
  | 44 => ⟨S2048, .f32⟩
  | 45 => ⟨S_, .f32⟩
  | 46 => ⟨S_, .f32⟩
  | 47 => ⟨S_, .f32⟩
  | 48 => ⟨S_, .f32⟩
  | 49 => ⟨S2048x1, .i32⟩
  | 50 => ⟨S1x2048, .i32⟩
  | 51 => ⟨S2048x2048, .i32⟩
  | 52 => ⟨S2048x2048, .i32⟩
  | 53 => ⟨S2048x2048, .i1⟩
  | 54 => ⟨S2048x2048, .i1⟩
  | 55 => ⟨S2048x2048, .i1⟩
  | 56 => ⟨S2048x1, .i32⟩
  | 57 => ⟨S1x2048, .i32⟩
  | 58 => ⟨S2048x2048, .i32⟩
  | 59 => ⟨S2048x2048, .i32⟩
  | 60 => ⟨S2048x2048, .i1⟩
  | 61 => ⟨S_, .f32⟩
  | 62 => ⟨S_, .f32⟩
  | 63 => ⟨S2048x2048, .f32⟩
  | 64 => ⟨S2048x2048, .f32⟩
  | 65 => ⟨S_, .f32⟩
  | 66 => ⟨S_, .f32⟩
  | 67 => ⟨S2048x2048, .i32⟩
  | 68 => ⟨S_, .i32⟩
  | 69 => ⟨S_, .i32⟩
  | 70 => ⟨S_, .i32⟩
  | 71 => ⟨S_, .i32⟩
  | 72 => ⟨S_, .f32⟩
  | 73 => ⟨S_, .f32⟩
  | 74 => ⟨S_, .f32⟩
  | 75 => ⟨S_, .f32⟩
  | 76 => ⟨S2048x2048, .f32⟩
  | 77 => ⟨S2048x2048, .f32⟩
  | 78 => ⟨S_, .f32⟩
  | 79 => ⟨S_, .f32⟩
  | 80 => ⟨S2048x2048, .i32⟩
  | 81 => ⟨S_, .i32⟩
  | 82 => ⟨S_, .i32⟩
  | 83 => ⟨S_, .i32⟩
  | 84 => ⟨S_, .i32⟩
  | 85 => ⟨S_, .f32⟩
  | 86 => ⟨S_, .f32⟩
  | 87 => ⟨S_, .i32⟩
  | 88 => ⟨S128, .i32⟩
  | 89 => ⟨S128, .i32⟩
  | 90 => ⟨S128, .i32⟩
  | 91 => ⟨S128x1, .i32⟩
  | 92 => ⟨S2048x128, .f32⟩
  | 93 => ⟨S2048x128, .f32⟩
  | 94 => ⟨S_, .f32⟩
  | 95 => ⟨S2048, .f32⟩
  | 96 => ⟨S2048x1, .f32⟩
  | 97 => ⟨S2048x1, .f32⟩
  | 98 => ⟨S2048x128, .f32⟩
  | 99 => ⟨S2048x128, .f32⟩
  | 100 => ⟨S128x2048, .f32⟩
  | 101 => ⟨S2048x2048, .f32⟩
  | 102 => ⟨S2048x2048, .i32⟩
  | 103 => ⟨S2048x2048, .i32⟩
  | 104 => ⟨S_, .i32⟩
  | 105 => ⟨S2048x2048, .i32⟩
  | 106 => ⟨S2048x2048, .i32⟩
  | 107 => ⟨S2048x2048, .i1⟩
  | 108 => ⟨S_, .f32⟩
  | 109 => ⟨S_, .f32⟩
  | 110 => ⟨S2048x2048, .f32⟩
  | 111 => ⟨S2048x2048, .f32⟩
  | 112 => ⟨S2048x100, .f32⟩
  | 113 => ⟨S2048x100, .i32⟩
  | 114 => ⟨S_, .i32⟩
  | 115 => ⟨S2048x100, .i32⟩
  | 116 => ⟨S2048x100, .i1⟩
  | 117 => ⟨S_, .i32⟩
  | 118 => ⟨S2048x100, .i32⟩
  | 119 => ⟨S2048x100, .i32⟩
  | 120 => ⟨S2048x100, .i32⟩
  | 121 => ⟨S2048x100x1, .i32⟩
  | 122 => ⟨S2048x100, .i32⟩
  | 123 => ⟨S2048x1, .i32⟩
  | 124 => ⟨S2048x100, .i32⟩
  | 125 => ⟨S2048x100, .i1⟩
  | 126 => ⟨S_, .f32⟩
  | 127 => ⟨S2048x100, .f32⟩
  | _ => ⟨S2048x512, .f32⟩

abbrev hbmTy0_3 (i : Nat) : BufTy := match i % 128 with
  | 0 => ⟨S2048x100, .f32⟩
  | 1 => ⟨S_, .f32⟩
  | 2 => ⟨S2048, .f32⟩
  | 3 => ⟨S2048x1, .f32⟩
  | 4 => ⟨S2048x100, .f32⟩
  | 5 => ⟨S2048x100, .f32⟩
  | 6 => ⟨S2048x100, .f32⟩
  | 7 => ⟨S_, .f32⟩
  | 8 => ⟨S2048, .f32⟩
  | 9 => ⟨S_, .f32⟩
  | 10 => ⟨S_, .f32⟩
  | 11 => ⟨S2048x100, .f32⟩
  | 12 => ⟨S2048x100, .f32⟩
  | 13 => ⟨S_, .f32⟩
  | 14 => ⟨S2048, .f32⟩
  | 15 => ⟨S_, .f32⟩
  | 16 => ⟨S2048, .f32⟩
  | 17 => ⟨S2048, .f32⟩
  | 18 => ⟨S_, .f32⟩
  | 19 => ⟨S2048, .f32⟩
  | 20 => ⟨S2048, .f32⟩
  | 21 => ⟨S2048, .f32⟩
  | 22 => ⟨S2048, .f32⟩
  | 23 => ⟨S2048, .f32⟩
  | 24 => ⟨S2048x1, .i32⟩
  | 25 => ⟨S2048, .i32⟩
  | 26 => ⟨S2048, .i1⟩
  | 27 => ⟨S2048, .f32⟩
  | 28 => ⟨S_, .f32⟩
  | 29 => ⟨S_, .f32⟩
  | 30 => ⟨S_, .f32⟩
  | 31 => ⟨S_, .f32⟩
  | 32 => ⟨S2048x1, .i32⟩
  | 33 => ⟨S1x2048, .i32⟩
  | 34 => ⟨S2048x2048, .i32⟩
  | 35 => ⟨S2048x2048, .i32⟩
  | 36 => ⟨S2048x2048, .i1⟩
  | 37 => ⟨S2048x2048, .i1⟩
  | 38 => ⟨S2048x2048, .i1⟩
  | 39 => ⟨S2048x1, .i32⟩
  | 40 => ⟨S1x2048, .i32⟩
  | 41 => ⟨S2048x2048, .i32⟩
  | 42 => ⟨S2048x2048, .i32⟩
  | 43 => ⟨S2048x2048, .i1⟩
  | 44 => ⟨S_, .f32⟩
  | 45 => ⟨S_, .f32⟩
  | 46 => ⟨S2048x2048, .f32⟩
  | 47 => ⟨S2048x2048, .f32⟩
  | 48 => ⟨S_, .f32⟩
  | 49 => ⟨S_, .f32⟩
  | 50 => ⟨S2048x2048, .i32⟩
  | 51 => ⟨S_, .i32⟩
  | 52 => ⟨S_, .i32⟩
  | 53 => ⟨S_, .i32⟩
  | 54 => ⟨S_, .i32⟩
  | 55 => ⟨S_, .f32⟩
  | 56 => ⟨S_, .f32⟩
  | 57 => ⟨S_, .f32⟩
  | 58 => ⟨S_, .f32⟩
  | 59 => ⟨S2048x2048, .f32⟩
  | 60 => ⟨S2048x2048, .f32⟩
  | 61 => ⟨S_, .f32⟩
  | 62 => ⟨S_, .f32⟩
  | 63 => ⟨S2048x2048, .i32⟩
  | 64 => ⟨S_, .i32⟩
  | 65 => ⟨S_, .i32⟩
  | 66 => ⟨S_, .i32⟩
  | 67 => ⟨S_, .i32⟩
  | 68 => ⟨S_, .f32⟩
  | 69 => ⟨S_, .f32⟩
  | 70 => ⟨S8192, .f32⟩
  | 71 => ⟨S_, .f32⟩
  | 72 => ⟨S_, .f32⟩
  | 73 => ⟨S_, .f32⟩
  | 74 => ⟨S_, .f32⟩
  | 75 => ⟨S1, .f32⟩
  | 76 => ⟨S1, .f32⟩
  | 77 => ⟨S1, .f32⟩
  | 78 => ⟨S1, .f32⟩
  | 79 => ⟨S4, .f32⟩
  | 80 => ⟨S_, .f32⟩
  | 81 => ⟨S_, .f32⟩
  | 82 => ⟨S_, .f32⟩
  | 83 => ⟨S_, .f32⟩
  | 84 => ⟨S1, .f32⟩
  | 85 => ⟨S1, .f32⟩
  | 86 => ⟨S1, .f32⟩
  | 87 => ⟨S1, .f32⟩
  | 88 => ⟨S4, .f32⟩
  | 89 => ⟨S_, .f32⟩
  | 90 => ⟨S_, .f32⟩
  | 91 => ⟨S_, .f32⟩
  | 92 => ⟨S_, .f32⟩
  | 93 => ⟨S1, .f32⟩
  | 94 => ⟨S1, .f32⟩
  | 95 => ⟨S1, .f32⟩
  | 96 => ⟨S1, .f32⟩
  | 97 => ⟨S4, .f32⟩
  | 98 => ⟨S_, .f32⟩
  | 99 => ⟨S_, .f32⟩
  | 100 => ⟨S_, .f32⟩
  | 101 => ⟨S_, .f32⟩
  | _ => ⟨S2048x512, .f32⟩

abbrev hbmTy (i : Nat) : BufTy := match i / 128 with
  | 0 => hbmTy0_0 i
  | 1 => hbmTy0_1 i
  | 2 => hbmTy0_2 i
  | 3 => hbmTy0_3 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_call0_v2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_8 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_v15 : Ref sig .tc := ⟨.hbm, 34, rfl⟩
abbrev main_values : Ref sig .tc := ⟨.hbm, 35, rfl⟩
abbrev main_indices : Ref sig .tc := ⟨.hbm, 36, rfl⟩
abbrev main_c_9 : Ref sig .tc := ⟨.hbm, 37, rfl⟩
abbrev main_v16 : Ref sig .tc := ⟨.hbm, 38, rfl⟩
abbrev main_v17 : Ref sig .tc := ⟨.hbm, 39, rfl⟩
abbrev main_c_10 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_11 : Ref sig .tc := ⟨.hbm, 49, rfl⟩
abbrev main_v26 : Ref sig .tc := ⟨.hbm, 50, rfl⟩
abbrev main_v27 : Ref sig .tc := ⟨.hbm, 51, rfl⟩
abbrev main_cst_12 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_13 : Ref sig .tc := ⟨.hbm, 58, rfl⟩
abbrev main_v33 : Ref sig .tc := ⟨.hbm, 59, rfl⟩
abbrev main_cst_14 : Ref sig .tc := ⟨.hbm, 60, rfl⟩
abbrev main_call2_v0 : Ref sig .tc := ⟨.hbm, 61, rfl⟩
abbrev main_call2_v1 : Ref sig .tc := ⟨.hbm, 62, rfl⟩
abbrev main_v34 : Ref sig .tc := ⟨.hbm, 63, rfl⟩
abbrev main_cst_15 : Ref sig .tc := ⟨.hbm, 64, rfl⟩
abbrev main_v35 : Ref sig .tc := ⟨.hbm, 65, rfl⟩
abbrev main_cst_16 : Ref sig .tc := ⟨.hbm, 66, rfl⟩
abbrev main_v36 : Ref sig .tc := ⟨.hbm, 67, rfl⟩
abbrev main_v37 : Ref sig .tc := ⟨.hbm, 68, rfl⟩
abbrev main_cst_17 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_18 : Ref sig .tc := ⟨.hbm, 79, rfl⟩
abbrev main_v47 : Ref sig .tc := ⟨.hbm, 80, rfl⟩
abbrev main_cst_19 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_20 : Ref sig .tc := ⟨.hbm, 95, rfl⟩
abbrev main_call3_v0 : Ref sig .tc := ⟨.hbm, 96, rfl⟩
abbrev main_call3_v1 : Ref sig .tc := ⟨.hbm, 97, rfl⟩
abbrev main_v61 : Ref sig .tc := ⟨.hbm, 98, rfl⟩
abbrev main_cst_21 : Ref sig .tc := ⟨.hbm, 99, rfl⟩
abbrev main_v62 : Ref sig .tc := ⟨.hbm, 100, rfl⟩
abbrev main_v63 : Ref sig .tc := ⟨.hbm, 101, rfl⟩
abbrev main_c_22 : Ref sig .tc := ⟨.hbm, 102, rfl⟩
abbrev main_v64 : Ref sig .tc := ⟨.hbm, 103, rfl⟩
abbrev main_c_23 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_24 : Ref sig .tc := ⟨.hbm, 108, rfl⟩
abbrev main_call4_v0 : Ref sig .tc := ⟨.hbm, 109, rfl⟩
abbrev main_call4_v1 : Ref sig .tc := ⟨.hbm, 110, rfl⟩
abbrev main_v68 : Ref sig .tc := ⟨.hbm, 111, rfl⟩
abbrev main_cst_25 : Ref sig .tc := ⟨.hbm, 112, rfl⟩
abbrev main_v69 : Ref sig .tc := ⟨.hbm, 113, rfl⟩
abbrev main_v70 : Ref sig .tc := ⟨.hbm, 114, rfl⟩
abbrev main_c_26 : Ref sig .tc := ⟨.hbm, 115, rfl⟩
abbrev main_v71 : Ref sig .tc := ⟨.hbm, 116, rfl⟩
abbrev main_c_27 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_c_28 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_call5_v0 : Ref sig .tc := ⟨.hbm, 127, rfl⟩
abbrev main_call5_cst : Ref sig .tc := ⟨.hbm, 128, rfl⟩
abbrev main_call5_v1 : Ref sig .tc := ⟨.hbm, 129, rfl⟩
abbrev main_call5_v2 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_c_29 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_cst_30 : Ref sig .tc := ⟨.hbm, 142, rfl⟩
abbrev main_call6_v0 : Ref sig .tc := ⟨.hbm, 143, rfl⟩
abbrev main_call6_v1 : Ref sig .tc := ⟨.hbm, 144, rfl⟩
abbrev main_v90 : Ref sig .tc := ⟨.hbm, 145, rfl⟩
abbrev main_values_31 : Ref sig .tc := ⟨.hbm, 146, rfl⟩
abbrev main_indices_32 : Ref sig .tc := ⟨.hbm, 147, rfl⟩
abbrev main_c_33 : Ref sig .tc := ⟨.hbm, 148, rfl⟩
abbrev main_v91 : Ref sig .tc := ⟨.hbm, 149, rfl⟩
abbrev main_v92 : Ref sig .tc := ⟨.hbm, 150, rfl⟩
abbrev main_c_34 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_cst_35 : Ref sig .tc := ⟨.hbm, 160, rfl⟩
abbrev main_v101 : Ref sig .tc := ⟨.hbm, 161, rfl⟩
abbrev main_v102 : Ref sig .tc := ⟨.hbm, 162, rfl⟩
abbrev main_cst_36 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_cst_37 : Ref sig .tc := ⟨.hbm, 169, rfl⟩
abbrev main_v108 : Ref sig .tc := ⟨.hbm, 170, rfl⟩
abbrev main_cst_38 : Ref sig .tc := ⟨.hbm, 171, rfl⟩
abbrev main_call7_v0 : Ref sig .tc := ⟨.hbm, 172, rfl⟩
abbrev main_call7_v1 : Ref sig .tc := ⟨.hbm, 173, rfl⟩
abbrev main_v109 : Ref sig .tc := ⟨.hbm, 174, rfl⟩
abbrev main_cst_39 : Ref sig .tc := ⟨.hbm, 175, rfl⟩
abbrev main_v110 : Ref sig .tc := ⟨.hbm, 176, rfl⟩
abbrev main_cst_40 : Ref sig .tc := ⟨.hbm, 177, rfl⟩
abbrev main_v111 : Ref sig .tc := ⟨.hbm, 178, rfl⟩
abbrev main_v112 : Ref sig .tc := ⟨.hbm, 179, rfl⟩
abbrev main_cst_41 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_cst_42 : Ref sig .tc := ⟨.hbm, 190, rfl⟩
abbrev main_v122 : Ref sig .tc := ⟨.hbm, 191, rfl⟩
abbrev main_cst_43 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_cst_44 : Ref sig .tc := ⟨.hbm, 206, rfl⟩
abbrev main_call8_v0 : Ref sig .tc := ⟨.hbm, 207, rfl⟩
abbrev main_call8_v1 : Ref sig .tc := ⟨.hbm, 208, rfl⟩
abbrev main_v136 : Ref sig .tc := ⟨.hbm, 209, rfl⟩
abbrev main_cst_45 : Ref sig .tc := ⟨.hbm, 210, rfl⟩
abbrev main_v137 : Ref sig .tc := ⟨.hbm, 211, rfl⟩
abbrev main_v138 : Ref sig .tc := ⟨.hbm, 212, rfl⟩
abbrev main_c_46 : Ref sig .tc := ⟨.hbm, 213, rfl⟩
abbrev main_v139 : Ref sig .tc := ⟨.hbm, 214, rfl⟩
abbrev main_c_47 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_cst_48 : Ref sig .tc := ⟨.hbm, 219, rfl⟩
abbrev main_call9_v0 : Ref sig .tc := ⟨.hbm, 220, rfl⟩
abbrev main_call9_v1 : Ref sig .tc := ⟨.hbm, 221, rfl⟩
abbrev main_v143 : Ref sig .tc := ⟨.hbm, 222, rfl⟩
abbrev main_cst_49 : Ref sig .tc := ⟨.hbm, 223, rfl⟩
abbrev main_v144 : Ref sig .tc := ⟨.hbm, 224, rfl⟩
abbrev main_v145 : Ref sig .tc := ⟨.hbm, 225, rfl⟩
abbrev main_c_50 : Ref sig .tc := ⟨.hbm, 226, rfl⟩
abbrev main_v146 : Ref sig .tc := ⟨.hbm, 227, rfl⟩
abbrev main_c_51 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_c_52 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_call10_v0 : Ref sig .tc := ⟨.hbm, 238, rfl⟩
abbrev main_call10_cst : Ref sig .tc := ⟨.hbm, 239, rfl⟩
abbrev main_call10_v1 : Ref sig .tc := ⟨.hbm, 240, rfl⟩
abbrev main_call10_v2 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_c_53 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_cst_54 : Ref sig .tc := ⟨.hbm, 253, rfl⟩
abbrev main_call11_v0 : Ref sig .tc := ⟨.hbm, 254, rfl⟩
abbrev main_call11_v1 : Ref sig .tc := ⟨.hbm, 255, rfl⟩
abbrev main_v165 : Ref sig .tc := ⟨.hbm, 256, rfl⟩
abbrev main_values_55 : Ref sig .tc := ⟨.hbm, 257, rfl⟩
abbrev main_indices_56 : Ref sig .tc := ⟨.hbm, 258, rfl⟩
abbrev main_c_57 : Ref sig .tc := ⟨.hbm, 259, rfl⟩
abbrev main_v166 : Ref sig .tc := ⟨.hbm, 260, rfl⟩
abbrev main_v167 : Ref sig .tc := ⟨.hbm, 261, rfl⟩
abbrev main_c_58 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_cst_59 : Ref sig .tc := ⟨.hbm, 271, rfl⟩
abbrev main_v176 : Ref sig .tc := ⟨.hbm, 272, rfl⟩
abbrev main_v177 : Ref sig .tc := ⟨.hbm, 273, rfl⟩
abbrev main_cst_60 : Ref sig .tc := ⟨.hbm, 274, rfl⟩
abbrev main_v178 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_cst_61 : Ref sig .tc := ⟨.hbm, 280, rfl⟩
abbrev main_v183 : Ref sig .tc := ⟨.hbm, 281, rfl⟩
abbrev main_cst_62 : Ref sig .tc := ⟨.hbm, 282, rfl⟩
abbrev main_call12_v0 : Ref sig .tc := ⟨.hbm, 283, rfl⟩
abbrev main_call12_v1 : Ref sig .tc := ⟨.hbm, 284, rfl⟩
abbrev main_v184 : Ref sig .tc := ⟨.hbm, 285, rfl⟩
abbrev main_cst_63 : Ref sig .tc := ⟨.hbm, 286, rfl⟩
abbrev main_v185 : Ref sig .tc := ⟨.hbm, 287, rfl⟩
abbrev main_cst_64 : Ref sig .tc := ⟨.hbm, 288, rfl⟩
abbrev main_v186 : Ref sig .tc := ⟨.hbm, 289, rfl⟩
abbrev main_v187 : Ref sig .tc := ⟨.hbm, 290, rfl⟩
abbrev main_cst_65 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_v191 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_v195 : Ref sig .tc := ⟨.hbm, 299, rfl⟩
abbrev main_v196 : Ref sig .tc := ⟨.hbm, 300, rfl⟩
abbrev main_cst_66 : Ref sig .tc := ⟨.hbm, 301, rfl⟩
abbrev main_v197 : Ref sig .tc := ⟨.hbm, 302, rfl⟩
abbrev main_cst_67 : Ref sig .tc := ⟨.hbm, 303, rfl⟩
abbrev main_v198 : Ref sig .tc := ⟨.hbm, 304, rfl⟩
abbrev main_v199 : Ref sig .tc := ⟨.hbm, 305, rfl⟩
abbrev main_v200 : Ref sig .tc := ⟨.hbm, 306, rfl⟩
abbrev main_v201 : Ref sig .tc := ⟨.hbm, 307, rfl⟩
abbrev main_v202 : Ref sig .tc := ⟨.hbm, 308, rfl⟩
abbrev main_v203 : Ref sig .tc := ⟨.hbm, 309, rfl⟩
abbrev main_v204 : Ref sig .tc := ⟨.hbm, 310, rfl⟩
abbrev main_v205 : Ref sig .tc := ⟨.hbm, 311, rfl⟩
abbrev main_v206 : Ref sig .tc := ⟨.hbm, 312, rfl⟩
abbrev main_v207 : Ref sig .tc := ⟨.hbm, 313, rfl⟩
abbrev main_v208 : Ref sig .tc := ⟨.hbm, 314, rfl⟩
abbrev main_v209 : Ref sig .tc := ⟨.hbm, 315, rfl⟩
abbrev main_v210 : Ref sig .tc := ⟨.hbm, 316, rfl⟩
abbrev main_cst_68 : Ref sig .tc := ⟨.hbm, 317, rfl⟩
abbrev main_call13_v0 : Ref sig .tc := ⟨.hbm, 318, rfl⟩
abbrev main_call13_v1 : Ref sig .tc := ⟨.hbm, 319, rfl⟩
abbrev main_v211 : Ref sig .tc := ⟨.hbm, 320, rfl⟩
abbrev main_cst_69 : Ref sig .tc := ⟨.hbm, 321, rfl⟩
abbrev main_v212 : Ref sig .tc := ⟨.hbm, 322, rfl⟩
abbrev main_v213 : Ref sig .tc := ⟨.hbm, 323, rfl⟩
abbrev main_c_70 : Ref sig .tc := ⟨.hbm, 324, rfl⟩
abbrev main_v214 : Ref sig .tc := ⟨.hbm, 325, rfl⟩
abbrev main_c_71 : Ref sig .tc := ⟨.hbm, 326, rfl⟩
abbrev main_v215 : Ref sig .tc := ⟨.hbm, 327, rfl⟩
abbrev main_v216 : Ref sig .tc := ⟨.hbm, 328, rfl⟩
abbrev main_v217 : Ref sig .tc := ⟨.hbm, 329, rfl⟩
abbrev main_cst_72 : Ref sig .tc := ⟨.hbm, 330, rfl⟩
abbrev main_call14_v0 : Ref sig .tc := ⟨.hbm, 331, rfl⟩
abbrev main_call14_v1 : Ref sig .tc := ⟨.hbm, 332, rfl⟩
abbrev main_v218 : Ref sig .tc := ⟨.hbm, 333, rfl⟩
abbrev main_cst_73 : Ref sig .tc := ⟨.hbm, 334, rfl⟩
abbrev main_v219 : Ref sig .tc := ⟨.hbm, 335, rfl⟩
abbrev main_v220 : Ref sig .tc := ⟨.hbm, 336, rfl⟩
abbrev main_c_74 : Ref sig .tc := ⟨.hbm, 337, rfl⟩
abbrev main_v221 : Ref sig .tc := ⟨.hbm, 338, rfl⟩
abbrev main_c_75 : Ref sig .tc := ⟨.hbm, 339, rfl⟩
abbrev main_v222 : Ref sig .tc := ⟨.hbm, 340, rfl⟩
abbrev main_v223 : Ref sig .tc := ⟨.hbm, 341, rfl⟩
abbrev main_v224 : Ref sig .tc := ⟨.hbm, 342, rfl⟩
abbrev main_c_76 : Ref sig .tc := ⟨.hbm, 343, rfl⟩
abbrev main_v225 : Ref sig .tc := ⟨.hbm, 344, rfl⟩
abbrev main_v226 : Ref sig .tc := ⟨.hbm, 345, rfl⟩
abbrev main_v227 : Ref sig .tc := ⟨.hbm, 346, rfl⟩
abbrev main_v228 : Ref sig .tc := ⟨.hbm, 347, rfl⟩
abbrev main_v229 : Ref sig .tc := ⟨.hbm, 348, rfl⟩
abbrev main_call15_v0 : Ref sig .tc := ⟨.hbm, 349, rfl⟩
abbrev main_call15_cst : Ref sig .tc := ⟨.hbm, 350, rfl⟩
abbrev main_call15_v1 : Ref sig .tc := ⟨.hbm, 351, rfl⟩
abbrev main_call15_v2 : Ref sig .tc := ⟨.hbm, 352, rfl⟩
abbrev main_v230 : Ref sig .tc := ⟨.hbm, 353, rfl⟩
abbrev main_v231 : Ref sig .tc := ⟨.hbm, 354, rfl⟩
abbrev main_v232 : Ref sig .tc := ⟨.hbm, 355, rfl⟩
abbrev main_v233 : Ref sig .tc := ⟨.hbm, 356, rfl⟩
abbrev main_v234 : Ref sig .tc := ⟨.hbm, 357, rfl⟩
abbrev main_v235 : Ref sig .tc := ⟨.hbm, 358, rfl⟩
abbrev main_v236 : Ref sig .tc := ⟨.hbm, 359, rfl⟩
abbrev main_c_77 : Ref sig .tc := ⟨.hbm, 360, rfl⟩
abbrev main_v237 : Ref sig .tc := ⟨.hbm, 361, rfl⟩
abbrev main_v238 : Ref sig .tc := ⟨.hbm, 362, rfl⟩
abbrev main_v239 : Ref sig .tc := ⟨.hbm, 363, rfl⟩
abbrev main_cst_78 : Ref sig .tc := ⟨.hbm, 364, rfl⟩
abbrev main_call16_v0 : Ref sig .tc := ⟨.hbm, 365, rfl⟩
abbrev main_call16_v1 : Ref sig .tc := ⟨.hbm, 366, rfl⟩
abbrev main_v240 : Ref sig .tc := ⟨.hbm, 367, rfl⟩
abbrev main_values_79 : Ref sig .tc := ⟨.hbm, 368, rfl⟩
abbrev main_indices_80 : Ref sig .tc := ⟨.hbm, 369, rfl⟩
abbrev main_c_81 : Ref sig .tc := ⟨.hbm, 370, rfl⟩
abbrev main_v241 : Ref sig .tc := ⟨.hbm, 371, rfl⟩
abbrev main_v242 : Ref sig .tc := ⟨.hbm, 372, rfl⟩
abbrev main_c_82 : Ref sig .tc := ⟨.hbm, 373, rfl⟩
abbrev main_v243 : Ref sig .tc := ⟨.hbm, 374, rfl⟩
abbrev main_v244 : Ref sig .tc := ⟨.hbm, 375, rfl⟩
abbrev main_v245 : Ref sig .tc := ⟨.hbm, 376, rfl⟩
abbrev main_v246 : Ref sig .tc := ⟨.hbm, 377, rfl⟩
abbrev main_v247 : Ref sig .tc := ⟨.hbm, 378, rfl⟩
abbrev main_v248 : Ref sig .tc := ⟨.hbm, 379, rfl⟩
abbrev main_v249 : Ref sig .tc := ⟨.hbm, 380, rfl⟩
abbrev main_v250 : Ref sig .tc := ⟨.hbm, 381, rfl⟩
abbrev main_cst_83 : Ref sig .tc := ⟨.hbm, 382, rfl⟩
abbrev main_v251 : Ref sig .tc := ⟨.hbm, 383, rfl⟩
abbrev main_v252 : Ref sig .tc := ⟨.hbm, 384, rfl⟩
abbrev main_cst_84 : Ref sig .tc := ⟨.hbm, 385, rfl⟩
abbrev main_v253 : Ref sig .tc := ⟨.hbm, 386, rfl⟩
abbrev main_v254 : Ref sig .tc := ⟨.hbm, 387, rfl⟩
abbrev main_v255 : Ref sig .tc := ⟨.hbm, 388, rfl⟩
abbrev main_v256 : Ref sig .tc := ⟨.hbm, 389, rfl⟩
abbrev main_v257 : Ref sig .tc := ⟨.hbm, 390, rfl⟩
abbrev main_cst_85 : Ref sig .tc := ⟨.hbm, 391, rfl⟩
abbrev main_v258 : Ref sig .tc := ⟨.hbm, 392, rfl⟩
abbrev main_cst_86 : Ref sig .tc := ⟨.hbm, 393, rfl⟩
abbrev main_call17_v0 : Ref sig .tc := ⟨.hbm, 394, rfl⟩
abbrev main_call17_v1 : Ref sig .tc := ⟨.hbm, 395, rfl⟩
abbrev main_v259 : Ref sig .tc := ⟨.hbm, 396, rfl⟩
abbrev main_cst_87 : Ref sig .tc := ⟨.hbm, 397, rfl⟩
abbrev main_v260 : Ref sig .tc := ⟨.hbm, 398, rfl⟩
abbrev main_cst_88 : Ref sig .tc := ⟨.hbm, 399, rfl⟩
abbrev main_v261 : Ref sig .tc := ⟨.hbm, 400, rfl⟩
abbrev main_v262 : Ref sig .tc := ⟨.hbm, 401, rfl⟩
abbrev main_cst_89 : Ref sig .tc := ⟨.hbm, 402, rfl⟩
abbrev main_v263 : Ref sig .tc := ⟨.hbm, 403, rfl⟩
abbrev main_v264 : Ref sig .tc := ⟨.hbm, 404, rfl⟩
abbrev main_v265 : Ref sig .tc := ⟨.hbm, 405, rfl⟩
abbrev main_v266 : Ref sig .tc := ⟨.hbm, 406, rfl⟩
abbrev main_v267 : Ref sig .tc := ⟨.hbm, 407, rfl⟩
abbrev main_v268 : Ref sig .tc := ⟨.hbm, 408, rfl⟩
abbrev main_v269 : Ref sig .tc := ⟨.hbm, 409, rfl⟩
abbrev main_v270 : Ref sig .tc := ⟨.hbm, 410, rfl⟩
abbrev main_v271 : Ref sig .tc := ⟨.hbm, 411, rfl⟩
abbrev main_cst_90 : Ref sig .tc := ⟨.hbm, 412, rfl⟩
abbrev main_v272 : Ref sig .tc := ⟨.hbm, 413, rfl⟩
abbrev main_cst_91 : Ref sig .tc := ⟨.hbm, 414, rfl⟩
abbrev main_v273 : Ref sig .tc := ⟨.hbm, 415, rfl⟩
abbrev main_v274 : Ref sig .tc := ⟨.hbm, 416, rfl⟩
abbrev main_v275 : Ref sig .tc := ⟨.hbm, 417, rfl⟩
abbrev main_v276 : Ref sig .tc := ⟨.hbm, 418, rfl⟩
abbrev main_v277 : Ref sig .tc := ⟨.hbm, 419, rfl⟩
abbrev main_v278 : Ref sig .tc := ⟨.hbm, 420, rfl⟩
abbrev main_v279 : Ref sig .tc := ⟨.hbm, 421, rfl⟩
abbrev main_v280 : Ref sig .tc := ⟨.hbm, 422, rfl⟩
abbrev main_v281 : Ref sig .tc := ⟨.hbm, 423, rfl⟩
abbrev main_v282 : Ref sig .tc := ⟨.hbm, 424, rfl⟩
abbrev main_v283 : Ref sig .tc := ⟨.hbm, 425, rfl⟩
abbrev main_v284 : Ref sig .tc := ⟨.hbm, 426, rfl⟩
abbrev main_v285 : Ref sig .tc := ⟨.hbm, 427, rfl⟩
abbrev main_cst_92 : Ref sig .tc := ⟨.hbm, 428, rfl⟩
abbrev main_call18_v0 : Ref sig .tc := ⟨.hbm, 429, rfl⟩
abbrev main_call18_v1 : Ref sig .tc := ⟨.hbm, 430, rfl⟩
abbrev main_v286 : Ref sig .tc := ⟨.hbm, 431, rfl⟩
abbrev main_cst_93 : Ref sig .tc := ⟨.hbm, 432, rfl⟩
abbrev main_v287 : Ref sig .tc := ⟨.hbm, 433, rfl⟩
abbrev main_v288 : Ref sig .tc := ⟨.hbm, 434, rfl⟩
abbrev main_c_94 : Ref sig .tc := ⟨.hbm, 435, rfl⟩
abbrev main_v289 : Ref sig .tc := ⟨.hbm, 436, rfl⟩
abbrev main_c_95 : Ref sig .tc := ⟨.hbm, 437, rfl⟩
abbrev main_v290 : Ref sig .tc := ⟨.hbm, 438, rfl⟩
abbrev main_v291 : Ref sig .tc := ⟨.hbm, 439, rfl⟩
abbrev main_v292 : Ref sig .tc := ⟨.hbm, 440, rfl⟩
abbrev main_cst_96 : Ref sig .tc := ⟨.hbm, 441, rfl⟩
abbrev main_call19_v0 : Ref sig .tc := ⟨.hbm, 442, rfl⟩
abbrev main_call19_v1 : Ref sig .tc := ⟨.hbm, 443, rfl⟩
abbrev main_v293 : Ref sig .tc := ⟨.hbm, 444, rfl⟩
abbrev main_cst_97 : Ref sig .tc := ⟨.hbm, 445, rfl⟩
abbrev main_v294 : Ref sig .tc := ⟨.hbm, 446, rfl⟩
abbrev main_v295 : Ref sig .tc := ⟨.hbm, 447, rfl⟩
abbrev main_c_98 : Ref sig .tc := ⟨.hbm, 448, rfl⟩
abbrev main_v296 : Ref sig .tc := ⟨.hbm, 449, rfl⟩
abbrev main_c_99 : Ref sig .tc := ⟨.hbm, 450, rfl⟩
abbrev main_v297 : Ref sig .tc := ⟨.hbm, 451, rfl⟩
abbrev main_v298 : Ref sig .tc := ⟨.hbm, 452, rfl⟩
abbrev main_v299 : Ref sig .tc := ⟨.hbm, 453, rfl⟩
abbrev main_v300 : Ref sig .tc := ⟨.hbm, 454, rfl⟩
abbrev main_cst_100 : Ref sig .tc := ⟨.hbm, 455, rfl⟩
abbrev main_v301 : Ref sig .tc := ⟨.hbm, 456, rfl⟩
abbrev main_cst_101 : Ref sig .tc := ⟨.hbm, 457, rfl⟩
abbrev main_v302 : Ref sig .tc := ⟨.hbm, 458, rfl⟩
abbrev main_v303 : Ref sig .tc := ⟨.hbm, 459, rfl⟩
abbrev main_v304 : Ref sig .tc := ⟨.hbm, 460, rfl⟩
abbrev main_v305 : Ref sig .tc := ⟨.hbm, 461, rfl⟩
abbrev main_v306 : Ref sig .tc := ⟨.hbm, 462, rfl⟩
abbrev main_v307 : Ref sig .tc := ⟨.hbm, 463, rfl⟩
abbrev main_cst_102 : Ref sig .tc := ⟨.hbm, 464, rfl⟩
abbrev main_v308 : Ref sig .tc := ⟨.hbm, 465, rfl⟩
abbrev main_cst_103 : Ref sig .tc := ⟨.hbm, 466, rfl⟩
abbrev main_v309 : Ref sig .tc := ⟨.hbm, 467, rfl⟩
abbrev main_v310 : Ref sig .tc := ⟨.hbm, 468, rfl⟩
abbrev main_v311 : Ref sig .tc := ⟨.hbm, 469, rfl⟩
abbrev main_v312 : Ref sig .tc := ⟨.hbm, 470, rfl⟩
abbrev main_v313 : Ref sig .tc := ⟨.hbm, 471, rfl⟩
abbrev main_v314 : Ref sig .tc := ⟨.hbm, 472, rfl⟩
abbrev main_cst_104 : Ref sig .tc := ⟨.hbm, 473, rfl⟩
abbrev main_v315 : Ref sig .tc := ⟨.hbm, 474, rfl⟩
abbrev main_cst_105 : Ref sig .tc := ⟨.hbm, 475, rfl⟩
abbrev main_v316 : Ref sig .tc := ⟨.hbm, 476, rfl⟩
abbrev main_v317 : Ref sig .tc := ⟨.hbm, 477, rfl⟩
abbrev main_v318 : Ref sig .tc := ⟨.hbm, 478, rfl⟩
abbrev main_v319 : Ref sig .tc := ⟨.hbm, 479, rfl⟩
abbrev main_v320 : Ref sig .tc := ⟨.hbm, 480, rfl⟩
abbrev main_v321 : Ref sig .tc := ⟨.hbm, 481, rfl⟩
abbrev main_cst_106 : Ref sig .tc := ⟨.hbm, 482, rfl⟩
abbrev main_v322 : Ref sig .tc := ⟨.hbm, 483, rfl⟩
abbrev main_cst_107 : Ref sig .tc := ⟨.hbm, 484, rfl⟩
abbrev main_v323 : Ref sig .tc := ⟨.hbm, 485, rfl⟩

abbrev nD : Nat := 1
abbrev τ : Topo := Topo.v7x

variable {F : FTy → Type} [FloatOps F]
-- ==== Proof.Block.lean ====
/- What the kernel's body does at one grid point, whatever the values: it adds to the output block the four sums of
   the block of rows. -/
module

public import proofs.«01_k».proof.Proof.Gen.KernelIdeal.Frame
public import Idealize.ShloMosaic.Lib.Pipeline.Value

@[expose] public section

noncomputable section

namespace Cert.KernelIdeal.Block

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- The point halfway between the two ends of the interval, rounded down. -/
def mid (lo hi : FVec F S1024x1 .f32) : FVec F S1024x1 .f32 :=
  floor (mulf (addf lo hi) (broadcast S1024x1 (Scalar.ofBits .f32 0x3F000000#32)))

/-- How many similarities of a row are at least `k / 32768`. -/
def count (sim : FVec F S1024x2048 .f32) (k : FVec F S1024x1 .f32) : FVec F S1024x1 .f32 :=
  shapeCast S1024x1
    (multiReduction .add [1] S1024
      (sitofp .f32 (extui 32 (cmpf .oge sim
        (broadcastTo S1024x2048 (mulf k (broadcast S1024x1 (Scalar.ofBits .f32 0x38000000#32)))
          broadcasts_S1024x1_S1024x2048)) natLt_1_32))
      0x00000000#32 reduces_S1024x2048_S1024 (.inl rfl) rfl)
    shapeCasts_S1024_S1024x1

/-- One hundred, row by row. -/
def hundred : FVec F S1024x1 .f32 := broadcast S1024x1 (Scalar.ofBits .f32 0x42C80000#32)

/-- One halving of the interval. -/
def halve (sim : FVec F S1024x2048 .f32) (p : FVec F S1024x1 .f32 × FVec F S1024x1 .f32) :
    FVec F S1024x1 .f32 × FVec F S1024x1 .f32 :=
  (select (cmpf .oge (count sim (mid p.1 p.2)) hundred) (mid p.1 p.2) p.1,
   select (cmpf .oge (count sim (mid p.1 p.2)) hundred) p.2 (mid p.1 p.2))

/-- Each of the body's three groups of halvings is three halvings. -/
theorem part2_lo (sim : FVec F S1024x2048 .f32) (lo hi : FVec F S1024x1 .f32) :
    k0_pay18 sim lo hi (mid lo hi) (count sim (mid lo hi)) hundred = (halve sim (halve sim (halve sim (lo, hi)))).1 := rfl
theorem part2_hi (sim : FVec F S1024x2048 .f32) (lo hi : FVec F S1024x1 .f32) :
    k0_pay19 sim lo hi (mid lo hi) (count sim (mid lo hi)) hundred = (halve sim (halve sim (halve sim (lo, hi)))).2 := rfl
theorem part2_mid (sim : FVec F S1024x2048 .f32) (lo hi a b c : FVec F S1024x1 .f32) :
    k0_pay20 sim lo hi a b c = mid (k0_pay18 sim lo hi a b c) (k0_pay19 sim lo hi a b c) := rfl
theorem part2_count (sim : FVec F S1024x2048 .f32) (lo hi a b c : FVec F S1024x1 .f32) :
    k0_pay21 sim lo hi a b c = count sim (k0_pay20 sim lo hi a b c) := rfl
theorem part3_lo (sim : FVec F S1024x2048 .f32) (lo hi : FVec F S1024x1 .f32) :
    k0_pay32 sim lo hi (mid lo hi) (count sim (mid lo hi)) hundred = (halve sim (halve sim (halve sim (lo, hi)))).1 := rfl
theorem part3_hi (sim : FVec F S1024x2048 .f32) (lo hi : FVec F S1024x1 .f32) :
    k0_pay33 sim lo hi (mid lo hi) (count sim (mid lo hi)) hundred = (halve sim (halve sim (halve sim (lo, hi)))).2 := rfl
theorem part3_mid (sim : FVec F S1024x2048 .f32) (lo hi a b c : FVec F S1024x1 .f32) :
    k0_pay34 sim lo hi a b c = mid (k0_pay32 sim lo hi a b c) (k0_pay33 sim lo hi a b c) := rfl
theorem part3_count (sim : FVec F S1024x2048 .f32) (lo hi a b c : FVec F S1024x1 .f32) :
    k0_pay35 sim lo hi a b c = count sim (k0_pay34 sim lo hi a b c) := rfl
theorem part4_lo (sim : FVec F S1024x2048 .f32) (lo hi : FVec F S1024x1 .f32) :
    k0_pay46 sim lo hi (mid lo hi) (count sim (mid lo hi)) hundred = (halve sim (halve sim (halve sim (lo, hi)))).1 := rfl
theorem part4_hi (sim : FVec F S1024x2048 .f32) (lo hi : FVec F S1024x1 .f32) :
    k0_pay47 sim lo hi (mid lo hi) (count sim (mid lo hi)) hundred = (halve sim (halve sim (halve sim (lo, hi)))).2 := rfl
theorem part4_mid (sim : FVec F S1024x2048 .f32) (lo hi a b c : FVec F S1024x1 .f32) :
    k0_pay48 sim lo hi a b c = mid (k0_pay46 sim lo hi a b c) (k0_pay47 sim lo hi a b c) := rfl
theorem part4_count (sim : FVec F S1024x2048 .f32) (lo hi a b c : FVec F S1024x1 .f32) :
    k0_pay49 sim lo hi a b c = count sim (k0_pay48 sim lo hi a b c) := rfl
theorem part5_lo (sim : FVec F S1024x2048 .f32) (lo hi : FVec F S1024x1 .f32) :
    k0_pay60 sim lo hi (mid lo hi) (count sim (mid lo hi)) hundred = (halve sim (halve sim (halve sim (lo, hi)))).1 := rfl
theorem part5_mid (sim : FVec F S1024x2048 .f32) (lo hi : FVec F S1024x1 .f32) :
    k0_pay61 sim lo hi (mid lo hi) (count sim (mid lo hi)) hundred
      = mid (halve sim (halve sim (halve sim (lo, hi)))).1 (halve sim (halve sim (halve sim (lo, hi)))).2 := rfl
theorem part5_count (sim : FVec F S1024x2048 .f32) (lo hi a b c : FVec F S1024x1 .f32) :
    k0_pay62 sim lo hi a b c = count sim (k0_pay61 sim lo hi a b c) := rfl

/-- The interval after thirteen halvings. -/
def interval (sim : FVec F S1024x2048 .f32) (lo hi : FVec F S1024x1 .f32) : FVec F S1024x1 .f32 × FVec F S1024x1 .f32 :=
  (halve sim)^[13] (lo, hi)

/-- The loss of the block's rows, summed: the similarities that count, each row's `exp (40 (sim - max))`, the share of
    them with the row's label. -/
def lossSum (sim sf : FVec F S1024x2048 .f32) (m lo : FVec F S1024x1 .f32) : F .f32 :=
  let e := select (cmpf .oge sim (broadcastTo S1024x2048 (mulf lo (broadcast S1024x1 (Scalar.ofBits .f32 0x38000000#32)))
      broadcasts_S1024x1_S1024x2048))
    (exp (mulf (broadcast S1024x2048 (Scalar.ofBits .f32 0x42200000#32)) (subf sim (broadcastTo S1024x2048 m broadcasts_S1024x1_S1024x2048))))
    (broadcast S1024x2048 (Scalar.ofBits .f32 0x00000000#32))
  let den := multiReduction .add [1] S1024 e 0x00000000#32 reduces_S1024x2048_S1024 (.inl rfl) rfl
  let num := multiReduction .add [1] S1024 (mulf e sf) 0x00000000#32 reduces_S1024x2048_S1024 (.inl rfl) rfl
  let eps : FVec F S1024 .f32 := broadcast S1024 (Scalar.ofBits .f32 0x322BCC77#32)
  let l := subf (broadcast S1024 (Scalar.ofBits .f32 0x00000000#32)) (log (divf (addf num eps) (addf den eps)))
  extractAt ![0, 0] (shapeCast S1x1 (multiReduction .add [1] S1 (shapeCast S1x1024 l shapeCasts_S1024_S1x1024)
    0x00000000#32 reduces_S1x1024_S1 (.inl rfl) rfl) shapeCasts_S1_S1x1) inpos_S1x1_p0_0

/-- What the body adds to the output block: the four sums of the block `i` of rows, from the branch's rows `x`, the
    block's own rows `xr`, the block's labels `tr` and all the labels `tc`. -/
def result (i : grid0.Coords) (x : Vec F S2048x128 .bf16) (xr : Vec F S1024x128 .bf16) (tr : Vec F S1024x1 .i32)
    (tc : Vec F S1x2048 .i32) (acc : Vec F S1x128 .f32) : Vec F S1x128 .f32 :=
  k0_pay67 (k0_pay2 i x xr) (k0_pay64 tc tr)
    (lossSum (k0_pay2 i x xr) (k0_pay64 tc tr) (k0_pay3 i x xr)
      (interval (k0_pay2 i x xr) k0_pay4 (k0_pay5 i x xr)).1)
    (k0_pay66 (k0_pay2 i x xr) (k0_pay3 i x xr) tc tr) acc

theorem part6 (sim : FVec F S1024x2048 .f32) (m lo hi : FVec F S1024x1 .f32) (tc : Vec F S1x2048 .i32)
    (tr : Vec F S1024x1 .i32) :
    k0_pay65 sim m lo (mid lo hi) (count sim (mid lo hi)) hundred tc tr
      = lossSum sim (k0_pay64 tc tr) m (halve sim (lo, hi)).1 := rfl

/-- The body's block of the branch's rows. -/
def rows (i : grid0.Coords) (x : Vec F S2048x128 .bf16) : Vec F S1024x128 .bf16 :=
  View.ld x (Rect.unit (s := S2048x128) (k0_off1 i) S1024x128.size (k0_off1_inb i))

variable (m : (ℓ : Loc nD τ sig) → Buf (Elt F) ℓ) (ρ : Dev nD → PrngReg)

theorem first_mid (i : grid0.Coords) (x : Vec F S2048x128 .bf16) (xr : Vec F S1024x128 .bf16) :
    k0_pay6 i x xr = mid k0_pay4 (k0_pay5 i x xr) := rfl
theorem first_count (i : grid0.Coords) (x : Vec F S2048x128 .bf16) (xr : Vec F S1024x128 .bf16) :
    k0_pay7 i x xr = count (k0_pay2 i x xr) (mid k0_pay4 (k0_pay5 i x xr)) := rfl
theorem hundred_eqs : k0_pay8 (F := F) = hundred ∧ k0_pay22 (F := F) = hundred ∧ k0_pay36 (F := F) = hundred
    ∧ k0_pay50 (F := F) = hundred ∧ k0_pay63 (F := F) = hundred := ⟨rfl, rfl, rfl, rfl, rfl⟩

/-- After the first point the body adds the block's four sums to what the output block held. -/
theorem out_B (c : Dev nD) (i : grid0.Coords) (arg2 : Memref sig .tc .vmem S2048x128 .bf16) (harg2 : arg2.IsWhole) (arg3 : Memref sig .tc .vmem S1024x1 .i32) (harg3 : arg3.IsWhole) (arg4 : Memref sig .tc .vmem S1x2048 .i32) (harg4 : arg4.IsWhole) (arg5 : Memref sig .tc .vmem S1x128 .f32) (harg5 : arg5.IsWhole) (hc0 : ¬cond0_0 i)
    (x0 : Vec F S2048x128 .bf16) (x1 : Vec F S1024x1 .i32) (x2 : Vec F S1x2048 .i32) (xo3 : Vec F S1x128 .f32) :
    out0_B_3 c i arg2 harg2 arg3 harg3 arg4 harg4 arg5 harg5 hc0 x0 x1 x2 xo3 = result i x0 (rows i x0) x1 x2 xo3 := by
  unfold out0_B_3
  rw [View.read_writes_eq_canon _ _ _ (cover0_B_3 c i arg2 harg2 arg3 harg3 arg4 harg4 arg5 harg5 hc0 x0 x1 x2 xo3)]
  unfold kernelRun0_B
  dsimp only
  rw [View.canon_unit_zero hz]
  sl_unfold_words
  simp only [View.readAt_eq_ld, harg2.read_unread, harg3.read_unread, harg4.read_unread, harg5.read_unread, View.ld_unit_zero (S := S2048x128) hz, View.ld_unit_zero (S := S1024x1) hz, View.ld_unit_zero (S := S1x2048) hz, View.ld_unit_zero (S := S1x128) hz]
  unfold result rows interval
  simp only [first_mid, first_count, hundred_eqs, part2_lo, part2_hi, part2_mid, part2_count, part3_lo, part3_hi,
    part3_mid, part3_count, part4_lo, part4_hi, part4_mid, part4_count, part5_lo, part5_mid, part5_count, part6, Prod.mk.eta]
  rfl

/-- At the first point the body clears the output block first. -/
theorem out_A (c : Dev nD) (i : grid0.Coords) (arg2 : Memref sig .tc .vmem S2048x128 .bf16) (harg2 : arg2.IsWhole) (arg3 : Memref sig .tc .vmem S1024x1 .i32) (harg3 : arg3.IsWhole) (arg4 : Memref sig .tc .vmem S1x2048 .i32) (harg4 : arg4.IsWhole) (arg5 : Memref sig .tc .vmem S1x128 .f32) (harg5 : arg5.IsWhole) (hc0 : cond0_0 i)
    (x0 : Vec F S2048x128 .bf16) (x1 : Vec F S1024x1 .i32) (x2 : Vec F S1x2048 .i32) :
    out0_A_3 c i arg2 harg2 arg3 harg3 arg4 harg4 arg5 harg5 hc0 x0 x1 x2 = result i x0 (rows i x0) x1 x2 k0_pay1 := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S1x128) hz]
  simp only [View.readCov_unit_zero (S := S1x128) _ hz, View.readAt_eq_ld, harg2.read_unread, harg3.read_unread, harg4.read_unread, harg5.read_unread, View.ld_unit_zero (S := S2048x128) hz, View.ld_unit_zero (S := S1024x1) hz, View.ld_unit_zero (S := S1x2048) hz, View.ld_unit_zero (S := S1x128) hz]
  unfold result rows interval
  simp only [first_mid, first_count, hundred_eqs, part2_lo, part2_hi, part2_mid, part2_count, part3_lo, part3_hi,
    part3_mid, part3_count, part4_lo, part4_hi, part4_mid, part4_count, part5_lo, part5_mid, part5_count, part6, Prod.mk.eta]
  rfl

/-- The output block after point `n`: the blocks' sums, added in order from zero. -/
def chain (c : Dev nD) : (n : ℕ) → n < cfg0.N → Vec F S1x128 .f32
  | 0, h => result (grid0.coords ⟨0, h⟩) (iblk m c 0 ⟨0, h⟩) (rows (grid0.coords ⟨0, h⟩) (iblk m c 0 ⟨0, h⟩)) (iblk m c 1 ⟨0, h⟩) (iblk m c 2 ⟨0, h⟩) k0_pay1
  | n + 1, h => result (grid0.coords ⟨n + 1, h⟩) (iblk m c 0 ⟨n + 1, h⟩) (rows (grid0.coords ⟨n + 1, h⟩) (iblk m c 0 ⟨n + 1, h⟩)) (iblk m c 1 ⟨n + 1, h⟩) (iblk m c 2 ⟨n + 1, h⟩) (chain c n (Nat.lt_of_succ_lt h))

theorem outsAt_eq (c : Dev nD) : ∀ (n : ℕ) (h : n < cfg0.N), outsAt0 m c n h = chain m c n h
  | 0, h => (outsAt0_A m c ⟨0, h⟩ rfl).trans (out_A ..)
  | n + 1, h => by
    have hN : cfg0.N = 8 := N_0
    have hB : ¬(⟨n + 1, h⟩ : Fin cfg0.N).val % 8 = 0 := by dsimp only; omega
    rw [outsAt0_B m c ⟨n + 1, h⟩ hB, out_B]
    show result _ _ _ _ _ (outsAt0 m c n _) = result _ _ _ _ _ (chain m c n _)
    rw [outsAt_eq c n]

/-- What the kernel's output array ends with. -/
abbrev total (c : Dev nD) : Buf (Elt F) ((c : Thread nD τ).loc main_v47) :=
  chain m c 7 (by rw [show cfg0.N = 8 from N_0]; decide)

theorem flushed_eq (c : Dev nD) (t : Fin cfg0.N) (hf : (cfg0.win 3).flush t = true) :
    (dats m 0 c).flushed 3 t = ((cfg0.win 3).blk t).view.read (Elt F) (total m c) := by
  have hN : cfg0.N = 8 := N_0
  have h3 : t.val = 7 := by have := (flush0_3 t).mp hf; have := t.isLt; omega
  obtain rfl : t = t0_7 := Fin.ext h3
  show (cfg0.win 3).cut (grid0.coords t0_7) ((dats m 0 c).after 3 t0_7) = _
  rw [after0_3, outsAt_eq]
  have hz' : (fun a => win0_3.index t0_7 a * main_v47.ty.shape.size a) = fun _ => 0 := funext fun a => by fin_cases a <;> decide
  exact (Memref.read_access_unit_zero (Elt F) main_v47 hz' (fun a => by rw [congrFun hz' a]; simp) (total m c)).symm

/-- The kernel's output array ends with the eight blocks' sums. -/
theorem final_o (c : Dev nD) : (dats m 0 c).arrAt 3 cfg0.N = total m c :=
  (dats m 0 c).arrAt_eq_of_cover 3 (total m c) (flushed_eq m c) fun i =>
    ⟨t0_7, (flush0_3 t0_7).mpr rfl, by
      show i ∈ ((View.whole main_v47).slice (win0_3.rect t0_7)).set
      rw [View.set_slice_whole, Rect.mem_set_unit]
      intro a
      have h0 : (i 0 : Nat) < 1 := (i 0).isLt
      have h1 : (i 1 : Nat) < 128 := (i 1).isLt
      match a with
      | ⟨0, _⟩ => show win0_3.index t0_7 0 * win0_3.size 0 ≤ (i 0 : Nat) ∧ (i 0 : Nat) < win0_3.index t0_7 0 * win0_3.size 0 + win0_3.xsize (grid0.coords t0_7) 0
                  rw [show win0_3.index t0_7 0 * win0_3.size 0 = 0 from by decide +kernel, show win0_3.xsize (grid0.coords t0_7) 0 = 1 from by decide +kernel]; omega
      | ⟨1, _⟩ => show win0_3.index t0_7 1 * win0_3.size 1 ≤ (i 1 : Nat) ∧ (i 1 : Nat) < win0_3.index t0_7 1 * win0_3.size 1 + win0_3.xsize (grid0.coords t0_7) 1
                  rw [show win0_3.index t0_7 1 * win0_3.size 1 = 0 from by decide +kernel, show win0_3.xsize (grid0.coords t0_7) 1 = 128 from by decide +kernel]; omega⟩

end Cert.KernelIdeal.Block

end
-- ==== Proof.KernelEntry.lean ====
/- What the kernel's arrays hold when it starts, and what its four results are of its output array. -/
module

public import proofs.«01_k».proof.Proof.Block
public import Idealize.ShloMosaic.Lib.StableHlo.Run
public import Idealize.ShloMosaic.Lib.Pipeline.FrameSuffix

@[expose] public section

noncomputable section

namespace Cert.KernelIdeal.Block

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The columns of the inputs that a branch reads. -/
def columns (ix : (⟨S128, .i32⟩ : BufTy).Contents (Elt F)) (x : (⟨S2048x512, .f32⟩ : BufTy).Contents (Elt F)) :
    (⟨S2048x128, .f32⟩ : BufTy).Contents (Elt F) :=
  Host.gather gather_S2048x512_S128x1_S2048x128_0_1_n_n_1_1_20481 x
    (broadcastInDim S128x1 ![0] bcast_S128_S128x1_0
      (select (cmpi .slt ix (broadcastInDim S128 ![] bcast_S_S128 (constantI S_ 32 0#32)))
        (addi ix (broadcastInDim S128 ![] bcast_S_S128 (constantI S_ 32 512#32))) ix))

/-- Rows divided by their norms. -/
def normalize (g : (⟨S2048x128, .f32⟩ : BufTy).Contents (Elt F)) : (⟨S2048x128, .f32⟩ : BufTy).Contents (Elt F) :=
  Host.divf g (broadcastInDim S2048x128 ![0, 1] bcast_S2048x1_S2048x128_0_1
    (Host.sqrt (broadcastInDim S2048x1 ![0] bcast_S2048_S2048x1_0
      (Host.reduceAdd (mulf g g) (constant S_ .f32 0x00000000#32) reducesTo_S2048x128_S2048_d1 h_S_))))

/-- A branch's rows, as the kernel holds them. -/
def branch (ix : (⟨S128, .i32⟩ : BufTy).Contents (Elt F)) (x : (⟨S2048x512, .f32⟩ : BufTy).Contents (Elt F)) :
    (⟨S2048x128, .bf16⟩ : BufTy).Contents (Elt F) :=
  truncf .bf16 (normalize (columns ix x)) bitsLt_bf16_f32

set_option maxHeartbeats 4000000 in
set_option maxRecDepth 8192 in
theorem V_main_v44 (c : Dev nD) : V m c main_v44 =
    concatenate S2048x512 1
      [⟨S2048x128, (branch (fun i => lit0 (S128.rowMajor i)) (m ((c : Thread nD τ).loc main_arg0)) : (⟨S2048x128, .bf16⟩ : BufTy).Contents (Elt F))⟩,
       ⟨S2048x128, (branch (fun i => lit1 (S128.rowMajor i)) (m ((c : Thread nD τ).loc main_arg0)) : (⟨S2048x128, .bf16⟩ : BufTy).Contents (Elt F))⟩,
       ⟨S2048x128, (branch (fun i => lit2 (S128.rowMajor i)) (m ((c : Thread nD τ).loc main_arg0)) : (⟨S2048x128, .bf16⟩ : BufTy).Contents (Elt F))⟩,
       ⟨S2048x128, (branch (fun i => lit3 (S128.rowMajor i)) (m ((c : Thread nD τ).loc main_arg0)) : (⟨S2048x128, .bf16⟩ : BufTy).Contents (Elt F))⟩]
      concatenates_S2048x128_S2048x128_S2048x128_S2048x128_S2048x512_d1 := by
  show StableHlo.after (List.flatten [hostOps0, hostOps0_1, hostOps0_2, hostOps0_3, hostOps0_4, hostOps0_5, hostOps0_6, hostOps0_7, hostOps0_8]) (fun b => m (c, b)) (Proc.devRef .tc main_v44) = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  try rfl

theorem V_main_v45 (c : Dev nD) :
    V m c main_v45 = shapeCast S2048x1 (m ((c : Thread nD τ).loc main_arg1) : (⟨S2048, .i32⟩ : BufTy).Contents (Elt F)) shapeCasts_S2048_S2048x1 := by
  show StableHlo.after (List.flatten [hostOps0, hostOps0_1, hostOps0_2, hostOps0_3, hostOps0_4, hostOps0_5, hostOps0_6, hostOps0_7, hostOps0_8]) (fun b => m (c, b)) (Proc.devRef .tc main_v45) = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  try rfl

theorem V_main_v46 (c : Dev nD) :
    V m c main_v46 = shapeCast S1x2048 (m ((c : Thread nD τ).loc main_arg1) : (⟨S2048, .i32⟩ : BufTy).Contents (Elt F)) shapeCasts_S2048_S1x2048 := by
  show StableHlo.after (List.flatten [hostOps0, hostOps0_1, hostOps0_2, hostOps0_3, hostOps0_4, hostOps0_5, hostOps0_6, hostOps0_7, hostOps0_8]) (fun b => m (c, b)) (Proc.devRef .tc main_v46) = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  try rfl

end Cert.KernelIdeal.Block

end
-- ==== Proof.Rows.lean ====
/- The mathematics of one row: its similarities with the other rows, the bisection that finds the hundred greatest of
   them, and that it finds those. Real numbers and integers only; nothing here is about a program. -/
module

public import Idealize.ShloMosaic.Lib.Pointwise

@[expose] public section

noncomputable section

namespace Cert.Knn

open Finset

/-- The similarity of rows `i` and `k`: their inner product. -/
def dot (X : Fin 2048 → Fin 128 → ℝ) (i k : Fin 2048) : ℝ := ∑ d, X i d * X k d

/-- The similarities of row `i`, with its own set to `-2`. -/
def masked (X : Fin 2048 → Fin 128 → ℝ) (i k : Fin 2048) : ℝ := if k = i then -2 else dot X i k

/-- Every row has length at most one. -/
def ShortRows (X : Fin 2048 → Fin 128 → ℝ) : Prop := ∀ i, ∑ d, X i d * X i d ≤ 1

theorem masked_ne {X : Fin 2048 → Fin 128 → ℝ} {i k : Fin 2048} (h : k ≠ i) : masked X i k = dot X i k := if_neg h
theorem masked_self (X : Fin 2048 → Fin 128 → ℝ) (i : Fin 2048) : masked X i i = -2 := if_pos rfl

/-- A similarity of such rows is at most one, -/
theorem dot_le {X : Fin 2048 → Fin 128 → ℝ} (h : ShortRows X) (i k : Fin 2048) : dot X i k ≤ 1 := by
  have hs : 0 ≤ ∑ d, (X i d - X k d) ^ 2 := sum_nonneg fun d _ => sq_nonneg _
  have he : ∑ d, (X i d - X k d) ^ 2 = ∑ d, X i d * X i d + ∑ d, X k d * X k d - 2 * ∑ d, X i d * X k d := by
    rw [mul_sum, ← sum_add_distrib, ← sum_sub_distrib]; exact sum_congr rfl fun d _ => by ring
  have hi := h i
  have hk := h k
  rw [he] at hs
  unfold dot; linarith

/-- and at least minus one. -/
theorem neg_one_le_dot {X : Fin 2048 → Fin 128 → ℝ} (h : ShortRows X) (i k : Fin 2048) : -1 ≤ dot X i k := by
  have hs : 0 ≤ ∑ d, (X i d + X k d) ^ 2 := sum_nonneg fun d _ => sq_nonneg _
  have he : ∑ d, (X i d + X k d) ^ 2 = ∑ d, X i d * X i d + ∑ d, X k d * X k d + 2 * ∑ d, X i d * X k d := by
    rw [mul_sum, ← sum_add_distrib, ← sum_add_distrib]; exact sum_congr rfl fun d _ => by ring
  have hi := h i
  have hk := h k
  rw [he] at hs
  unfold dot; linarith

/-- The greatest entry of a row. -/
def best (a : Fin 2048 → ℝ) : ℝ := univ.sup' ⟨0, mem_univ 0⟩ a

theorem le_best (a : Fin 2048 → ℝ) (k : Fin 2048) : a k ≤ best a := le_sup' a (mem_univ k)
theorem exists_best (a : Fin 2048 → ℝ) : ∃ k, a k = best a := by
  obtain ⟨k, _, hk⟩ := exists_mem_eq_sup' (⟨0, mem_univ 0⟩ : (univ : Finset (Fin 2048)).Nonempty) a
  exact ⟨k, hk.symm⟩

/-- The entries of a row that are at least `z`. -/
def atLeast (a : Fin 2048 → ℝ) (z : ℝ) : Finset (Fin 2048) := univ.filter fun k => z ≤ a k

theorem mem_atLeast {a : Fin 2048 → ℝ} {z : ℝ} {k : Fin 2048} : k ∈ atLeast a z ↔ z ≤ a k := by simp [atLeast]

theorem atLeast_anti (a : Fin 2048 → ℝ) {y z : ℝ} (h : y ≤ z) : atLeast a z ⊆ atLeast a y :=
  fun _ hk => mem_atLeast.mpr (h.trans (mem_atLeast.mp hk))

/-- One step of the bisection over multiples of `1 / 32768`: the half of the interval whose ends have at least a
    hundred entries, and fewer, at or above them. -/
def halve (a : Fin 2048 → ℝ) (p : ℤ × ℤ) : ℤ × ℤ :=
  if 100 ≤ (atLeast a (((p.1 + p.2) / 2 : ℤ) / 32768 : ℝ)).card then ((p.1 + p.2) / 2, p.2) else (p.1, (p.1 + p.2) / 2)

/-- Where the bisection starts. -/
def start (a : Fin 2048 → ℝ) : ℤ × ℤ := (-36100, ⌊best a * 32768⌋ + 1)

/-- The lower end of the interval after thirteen steps. -/
def lower (a : Fin 2048 → ℝ) : ℤ := ((halve a)^[13] (start a)).1

/-- What the bisection keeps: at least a hundred entries at or above the lower end, fewer at or above the upper, and
    the interval's width. -/
structure Good (a : Fin 2048 → ℝ) (w : ℤ) (p : ℤ × ℤ) : Prop where
  above : -36100 ≤ p.1
  many : 100 ≤ (atLeast a ((p.1 : ℤ) / 32768 : ℝ)).card
  few : (atLeast a ((p.2 : ℤ) / 32768 : ℝ)).card < 100
  width : p.2 - p.1 ≤ w

theorem Good.lt {a : Fin 2048 → ℝ} {w : ℤ} {p : ℤ × ℤ} (h : Good a w p) : p.1 < p.2 := by
  by_contra hc
  have hle : ((p.2 : ℤ) / 32768 : ℝ) ≤ (p.1 : ℤ) / 32768 := by
    have : (p.2 : ℝ) ≤ p.1 := by exact_mod_cast not_lt.mp hc
    linarith
  have := card_le_card (atLeast_anti a hle)
  have := h.many
  have := h.few
  omega

theorem Good.halve {a : Fin 2048 → ℝ} {w : ℤ} {p : ℤ × ℤ} (h : Good a w p) : Good a ((w + 1) / 2) (halve a p) := by
  have hlt := h.lt
  have ha := h.above
  have hw := h.width
  unfold Knn.halve
  split
  · next hc => exact ⟨by dsimp only; omega, hc, h.few, by dsimp only; omega⟩
  · next hc => exact ⟨ha, h.many, by dsimp only; omega, by dsimp only; omega⟩

/-- In a row of similarities the bisection starts well. -/
theorem start_good {X : Fin 2048 → Fin 128 → ℝ} (h : ShortRows X) (i : Fin 2048) :
    Good (masked X i) 68869 (start (masked X i)) := by
  have hb : best (masked X i) ≤ 1 := by
    obtain ⟨k, hk⟩ := exists_best (masked X i)
    rw [← hk]
    by_cases hki : k = i
    · rw [hki, masked_self]; norm_num
    · rw [masked_ne hki]; exact dot_le h i k
  refine ⟨le_refl _, ?_, ?_, ?_⟩
  · have hs : univ.erase i ⊆ atLeast (masked X i) (((start (masked X i)).1 : ℤ) / 32768 : ℝ) := by
      intro k hk
      rw [mem_atLeast, masked_ne (ne_of_mem_erase hk)]
      have := neg_one_le_dot h i k
      unfold start
      push_cast
      linarith
    have := card_le_card hs
    rw [card_erase_of_mem (mem_univ i), card_univ, Fintype.card_fin] at this
    omega
  · have he : atLeast (masked X i) (((start (masked X i)).2 : ℤ) / 32768 : ℝ) = ∅ := by
      rw [eq_empty_iff_forall_notMem]
      intro k hk
      rw [mem_atLeast] at hk
      have h1 := le_best (masked X i) k
      have h2 := Int.lt_floor_add_one (best (masked X i) * 32768)
      unfold start at hk
      push_cast at hk
      linarith
    rw [he]; simp
  · have : ⌊best (masked X i) * 32768⌋ ≤ 32768 := by
      rw [← Int.floor_intCast (R := ℝ) 32768]
      apply Int.floor_le_floor
      push_cast
      linarith
    unfold start
    dsimp only
    omega

/-- After thirteen steps the interval is at most nine wide. -/
theorem end_good {X : Fin 2048 → Fin 128 → ℝ} (h : ShortRows X) (i : Fin 2048) :
    Good (masked X i) 9 ((halve (masked X i))^[13] (start (masked X i))) := by
  have h0 := start_good h i
  simp only [Function.iterate_succ, Function.iterate_zero, Function.comp_apply, id_eq]
  have h13 := h0.halve.halve.halve.halve.halve.halve.halve.halve.halve.halve.halve.halve.halve
  norm_num at h13
  exact h13

/-- If exactly a hundred similarities of row `i` with other rows are more than `v - 9 / 32768`, the entries at or
    above the lower end that the bisection finds are the entries of any hundred other rows whose similarities are at
    least `v`. -/
theorem nearest {X : Fin 2048 → Fin 128 → ℝ} (h : ShortRows X) (i : Fin 2048) (T : Finset (Fin 2048)) (hT : T.card = 100)
    (hi : i ∉ T) (v : ℝ) (hv : ∀ k ∈ T, v ≤ dot X i k)
    (hc : (univ.filter fun k => k ≠ i ∧ v - 9 / 32768 < dot X i k).card = 100) :
    atLeast (masked X i) ((lower (masked X i) : ℤ) / 32768 : ℝ) = T := by
  have hg := end_good h i
  have hdef : lower (masked X i) = ((halve (masked X i))^[13] (start (masked X i))).1 := rfl
  rw [hdef]
  generalize (halve (masked X i))^[13] (start (masked X i)) = p at hg
  have hTm : ∀ k ∈ T, v ≤ masked X i k := fun k hk => by
    have hne : k ≠ i := fun e => hi (e ▸ hk)
    rw [masked_ne hne]; exact hv k hk
  have hlt : v < (p.2 : ℤ) / 32768 := by
    by_contra hcon
    have : T ⊆ atLeast (masked X i) ((p.2 : ℤ) / 32768 : ℝ) := fun k hk =>
      mem_atLeast.mpr ((not_lt.mp hcon).trans (hTm k hk))
    have := card_le_card this
    have := hg.few
    omega
  have hwid : ((p.2 : ℤ) : ℝ) - p.1 ≤ 9 := by exact_mod_cast hg.width
  have habv : (-36100 : ℝ) ≤ (p.1 : ℤ) := by exact_mod_cast hg.above
  set P := univ.filter fun k => k ≠ i ∧ v - 9 / 32768 < dot X i k with hP
  have hKP : atLeast (masked X i) ((p.1 : ℤ) / 32768 : ℝ) ⊆ P := by
    intro k hk
    rw [mem_atLeast] at hk
    have hki : k ≠ i := by
      rintro rfl
      rw [masked_self] at hk
      linarith
    rw [masked_ne hki] at hk
    rw [hP, mem_filter]
    exact ⟨mem_univ k, hki, by linarith⟩
  have hK : atLeast (masked X i) ((p.1 : ℤ) / 32768 : ℝ) = P :=
    eq_of_subset_of_card_le hKP (by rw [hc]; exact hg.many)
  have hTP : T ⊆ P := by
    intro k hk
    rw [hP, mem_filter]
    have := hv k hk
    exact ⟨mem_univ k, fun e => hi (e ▸ hk), by linarith⟩
  rw [hK]
  exact (eq_of_subset_of_card_le hTP (by rw [hc, hT])).symm

end Cert.Knn

end
-- ==== Proof.Numbers.lean ====
/- The programs' constants, and sums of real numbers, as extended reals. -/
module

public import Idealize.ShloMosaic.Lib.Pointwise

@[expose] public section

noncomputable section

namespace Cert.Knn

open Idealize.ShloMosaic Finset

theorem num_neg_two : Ideal.ofBits .f32 0xC0000000#32 = ((-2 : ℝ) : EReal) := by
  simp [Ideal.ofBits, Ideal.ieee, -EReal.coe_mul]; norm_num
theorem num_bot : Ideal.ofBits .f32 0xFF800000#32 = ⊥ := by
  simp [Ideal.ofBits, Ideal.ieee]
theorem num_32768 : Ideal.ofBits .f32 0x47000000#32 = ((32768 : ℝ) : EReal) := by
  simp [Ideal.ofBits, Ideal.ieee, -EReal.coe_mul]; norm_num
theorem num_neg_36100 : Ideal.ofBits .f32 0xC70D0400#32 = ((-36100 : ℝ) : EReal) := by
  simp [Ideal.ofBits, Ideal.ieee, -EReal.coe_mul]; norm_num
theorem num_half : Ideal.ofBits .f32 0x3F000000#32 = ((1 / 2 : ℝ) : EReal) := by
  simp [Ideal.ofBits, Ideal.ieee, -EReal.coe_mul]; norm_num
theorem num_inv_32768 : Ideal.ofBits .f32 0x38000000#32 = ((1 / 32768 : ℝ) : EReal) := by
  simp [Ideal.ofBits, Ideal.ieee, -EReal.coe_mul]; norm_num
theorem num_100 : Ideal.ofBits .f32 0x42C80000#32 = ((100 : ℝ) : EReal) := by
  simp [Ideal.ofBits, Ideal.ieee, -EReal.coe_mul]; norm_num
theorem num_40 : Ideal.ofBits .f32 0x42200000#32 = ((40 : ℝ) : EReal) := by
  simp [Ideal.ofBits, Ideal.ieee, -EReal.coe_mul]; norm_num
theorem num_2048 : Ideal.ofBits .f32 0x45000000#32 = ((2048 : ℝ) : EReal) := by
  simp [Ideal.ofBits, Ideal.ieee, -EReal.coe_mul]; norm_num
theorem num_8192 : Ideal.ofBits .f32 0x46000000#32 = ((8192 : ℝ) : EReal) := by
  simp [Ideal.ofBits, Ideal.ieee, -EReal.coe_mul]; norm_num
theorem num_4 : Ideal.ofBits .f32 0x40800000#32 = ((4 : ℝ) : EReal) := by
  simp [Ideal.ofBits, Ideal.ieee, -EReal.coe_mul]; norm_num
theorem num_4194304 : Ideal.ofBits .f32 0x4A800000#32 = ((4194304 : ℝ) : EReal) := by
  simp [Ideal.ofBits, Ideal.ieee, -EReal.coe_mul]; norm_num
theorem num_nine : Ideal.ofBits .f32 0x39900000#32 = ((9 / 32768 : ℝ) : EReal) := by
  simp [Ideal.ofBits, Ideal.ieee, -EReal.coe_mul]; norm_num

/-- A finite sum of real numbers is the same sum in the extended reals. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The quotient of two reals, the divisor not zero. -/
theorem div_real (x : ℝ) {y : ℝ} (h : y ≠ 0) : Ideal.div (x : EReal) (y : EReal) = ((x / y : ℝ) : EReal) := by
  rw [Ideal.div_coe h, ← EReal.coe_mul, mul_one_div]

theorem sub_real (x y : ℝ) : (x : EReal) - (y : EReal) = ((x - y : ℝ) : EReal) := (EReal.coe_sub x y).symm

/-- The greatest of finitely many reals, found from minus infinity. -/
theorem fold_max_real {n : ℕ} (a : Fin n → ℝ) (hn : (univ : Finset (Fin n)).Nonempty) :
    univ.fold max (⊥ : EReal) (fun k => (a k : EReal)) = ((univ.sup' hn a : ℝ) : EReal) := by
  apply le_antisymm
  · rw [Finset.fold_max_le]
    exact ⟨bot_le, fun k hk => EReal.coe_le_coe_iff.mpr (le_sup' a hk)⟩
  · obtain ⟨k, hk, he⟩ := exists_mem_eq_sup' hn a
    rw [he, Finset.le_fold_max]
    exact Or.inr ⟨k, hk, le_refl _⟩

end Cert.Knn

end
-- ==== Proof.RowTerms.lean ====
/- What a row adds to the results, as a function of its similarities: its loss, and whether its nearest row has its
   label. -/
module

public import proofs.«01_k».proof.Proof.Rows
public import proofs.«01_k».proof.Proof.Numbers

@[expose] public section

noncomputable section

namespace Cert.Knn

open Idealize.ShloMosaic Finset

/-- A row's loss, from the entries `K` of the row that count: the label's share of their weights `exp (40 (a - max))`,
    one small number added to both its sides, and the negative logarithm of it. -/
def rowLoss (K : Finset (Fin 2048)) (a : Fin 2048 → ℝ) (M : ℝ) (same : Fin 2048 → Prop) [DecidablePred same] : EReal :=
  0 - Ideal.log (Ideal.div
    (((∑ k ∈ K, if same k then Real.exp (40 * (a k - M)) else 0 : ℝ) : EReal) + Ideal.ofBits .f32 0x322BCC77#32)
    (((∑ k ∈ K, Real.exp (40 * (a k - M)) : ℝ) : EReal) + Ideal.ofBits .f32 0x322BCC77#32))

/-- Whether one of a row's greatest entries has the row's label. -/
def rowHit (a : Fin 2048 → ℝ) (same : Fin 2048 → Prop) : ℝ :=
  open Classical in if ∃ k, a k = best a ∧ same k then 1 else 0

/-- The greatest of a row's label matches at its greatest entries says whether there is one. -/
theorem row_hit (a : Fin 2048 → ℝ) (same : Fin 2048 → Prop) [DecidablePred same] :
    univ.fold max (⊥ : EReal) (fun k => if a k = best a then ((if same k then 1 else 0 : ℝ) : EReal) else 0)
      = (rowHit a same : EReal) := by
  classical
  have hf : (fun k => if a k = best a then ((if same k then 1 else 0 : ℝ) : EReal) else 0)
      = fun k => (((if a k = best a ∧ same k then 1 else 0 : ℝ)) : EReal) := by
    funext k
    by_cases h : a k = best a
    · by_cases h' : same k <;> simp [h, h']
    · simp [h]
  rw [hf, fold_max_real _ univ_nonempty, EReal.coe_eq_coe_iff]
  unfold rowHit
  apply le_antisymm
  · apply sup'_le
    intro k _
    by_cases h : a k = best a ∧ same k
    · rw [if_pos h, if_pos ⟨k, h⟩]
    · rw [if_neg h]; split <;> norm_num
  · split
    · next h =>
      obtain ⟨k, hk⟩ := h
      refine le_trans ?_ (le_sup' _ (mem_univ k))
      rw [if_pos hk]
    · refine le_trans ?_ (le_sup' _ (mem_univ 0))
      split <;> norm_num

end Cert.Knn

end
-- ==== Proof.BlockValue.lean ====
/- What one block computes, in real numbers: from rows that are real and from the labels, the four sums the body adds to
   the output block. -/
module

public import proofs.«01_k».proof.Proof.Block
public import proofs.«01_k».proof.Proof.RowTerms

@[expose] public section

noncomputable section

namespace Cert.KernelIdeal.Block

open Idealize.ShloMosaic Idealize.ShloMosaic.TcCoe
open Cert.KernelIdeal Cert.KernelIdeal.Gen Cert.Knn

set_option maxRecDepth 16384

/-- Row `r` of the block at point `i`, among all the rows. -/
def rowOf (i : grid0.Coords) (r : Fin 1024) : Fin 2048 :=
  ⟨(i 1).val * 1024 + r.val, by have h : (i 1).val < 2 := (i 1).isLt; have := r.isLt; omega⟩

theorem own_column (i : grid0.Coords) (r : Fin 1024) (k : Fin 2048) :
    IntOp.cmpi CmpIPredicate.eq (BitVec.ofNat 32 ↑k)
        (IntOp.addi (Scalar.muli (BitVec.ofNat 32 ↑(i 1)) 1024#32) (BitVec.ofNat 32 ↑r))
      = BitVec.ofBool (decide (k = rowOf i r)) := by
  have h : (i 1).val < 2 := (i 1).isLt
  have hr := r.isLt
  have hk := k.isLt
  show BitVec.ofBool (_ == _) = _
  congr 1
  rw [beq_eq_decide]
  congr 1
  apply propext
  constructor
  · intro e
    have e' := congrArg BitVec.toNat e
    change _ = ((BitVec.ofNat 32 (i 1).val * 1024#32) + BitVec.ofNat 32 r.val).toNat at e'
    rw [BitVec.toNat_add, BitVec.toNat_mul, BitVec.toNat_ofNat, BitVec.toNat_ofNat, BitVec.toNat_ofNat, BitVec.toNat_ofNat] at e'
    apply Fin.ext
    show k.val = (i 1).val * 1024 + r.val
    omega
  · intro e
    apply BitVec.eq_of_toNat_eq
    change _ = ((BitVec.ofNat 32 (i 1).val * 1024#32) + BitVec.ofNat 32 r.val).toNat
    rw [BitVec.toNat_add, BitVec.toNat_mul, BitVec.toNat_ofNat, BitVec.toNat_ofNat, BitVec.toNat_ofNat, BitVec.toNat_ofNat]
    have e' : k.val = (i 1).val * 1024 + r.val := congrArg Fin.val e
    omega

/-- The block's similarities are the masked similarities of its rows. -/
theorem sim_apply (i : grid0.Coords) (x : Vec Ideal S2048x128 .bf16) (xr : Vec Ideal S1024x128 .bf16)
    (X : Fin 2048 → Fin 128 → ℝ) (hx : ∀ k d, x (ix2 k d) = (X k d : EReal)) (hxr : ∀ r d, xr (ix2 r d) = (X (rowOf i r) d : EReal))
    (r : Fin 1024) (k : Fin 2048) :
    k0_pay2 i x xr (ix2 r k) = (masked X (rowOf i r) k : EReal) := by
  pointwise [k0_pay2]
  rw [own_column, num_neg_two]
  simp only [hx, hxr, ← EReal.coe_mul, ← coe_sum]
  by_cases h : k = rowOf i r
  · rw [h, masked_self]; simp [Scalar.select]
  · rw [masked_ne h]; simp [Scalar.select, h, dot]

theorem max_apply (i : grid0.Coords) (x : Vec Ideal S2048x128 .bf16) (xr : Vec Ideal S1024x128 .bf16)
    (A : Fin 1024 → Fin 2048 → ℝ) (hA : ∀ r k, k0_pay2 i x xr (ix2 r k) = (A r k : EReal)) (r : Fin 1024) :
    k0_pay3 i x xr (ix2 r 0) = (best (A r) : EReal) := by
  pointwise [k0_pay3]
  rw [num_bot]
  simp only [hA]
  exact fold_max_real (A r) ⟨0, Finset.mem_univ 0⟩

theorem count_apply (sim : FVec Ideal S1024x2048 .f32) (k : FVec Ideal S1024x1 .f32)
    (A : Fin 1024 → Fin 2048 → ℝ) (hA : ∀ r k, sim (ix2 r k) = (A r k : EReal)) (r : Fin 1024) (z : ℤ)
    (hz : k (ix2 r 0) = ((z : ℝ) : EReal)) :
    count sim k (ix2 r 0) = (((atLeast (A r) ((z : ℝ) / 32768)).card : ℝ) : EReal) := by
  pointwise [count]
  rw [hz, num_inv_32768, ← EReal.coe_mul, mul_one_div]
  simp only [hA, EReal.coe_le_coe_iff]
  rw [atLeast, Finset.card_filter, Nat.cast_sum, coe_sum]
  apply Finset.sum_congr rfl
  intro k _
  by_cases h : (z : ℝ) / 32768 ≤ A r k
  · simp [h, FloatOps.sitofp]
  · simp [h, FloatOps.sitofp]

theorem mid_apply (lo hi : FVec Ideal S1024x1 .f32) (r : Fin 1024) (a b : ℤ)
    (ha : lo (ix2 r 0) = ((a : ℝ) : EReal)) (hb : hi (ix2 r 0) = ((b : ℝ) : EReal)) :
    mid lo hi (ix2 r 0) = ((((a + b) / 2 : ℤ) : ℝ) : EReal) := by
  pointwise [mid]
  rw [ha, hb, num_half, ← EReal.coe_add, ← EReal.coe_mul, Ideal.liftRound_coe]
  congr 2
  rw [Int.floor_eq_iff]
  have h1 : 2 * ((a + b) / 2) ≤ a + b := by omega
  have h2 : a + b < 2 * ((a + b) / 2) + 2 := by omega
  have h1' : (2 : ℝ) * ((a + b) / 2 : ℤ) ≤ a + b := by exact_mod_cast h1
  have h2' : (a : ℝ) + b < 2 * ((a + b) / 2 : ℤ) + 2 := by exact_mod_cast h2
  constructor <;> linarith

/-- One halving, at one row, is one step of the row's bisection. -/
theorem halve_apply (sim : FVec Ideal S1024x2048 .f32) (p : FVec Ideal S1024x1 .f32 × FVec Ideal S1024x1 .f32)
    (A : Fin 1024 → Fin 2048 → ℝ) (hA : ∀ r k, sim (ix2 r k) = (A r k : EReal)) (r : Fin 1024) (q : ℤ × ℤ)
    (h1 : p.1 (ix2 r 0) = ((q.1 : ℝ) : EReal)) (h2 : p.2 (ix2 r 0) = ((q.2 : ℝ) : EReal)) :
    (halve sim p).1 (ix2 r 0) = (((Knn.halve (A r) q).1 : ℝ) : EReal)
      ∧ (halve sim p).2 (ix2 r 0) = (((Knn.halve (A r) q).2 : ℝ) : EReal) := by
  have hm := mid_apply p.1 p.2 r q.1 q.2 h1 h2
  have hc := count_apply sim (mid p.1 p.2) A hA r _ hm
  constructor
  · pointwise [halve, hundred]
    rw [hc, hm, h1, num_100]
    unfold Knn.halve
    by_cases h : 100 ≤ (atLeast (A r) (((q.1 + q.2) / 2 : ℤ) / 32768 : ℝ)).card
    · rw [if_pos h, if_pos (EReal.coe_le_coe_iff.mpr (by exact_mod_cast h))]
    · rw [if_neg h, if_neg (fun h' => h (by exact_mod_cast EReal.coe_le_coe_iff.mp h'))]
  · pointwise [halve, hundred]
    rw [hc, hm, h2, num_100]
    unfold Knn.halve
    by_cases h : 100 ≤ (atLeast (A r) (((q.1 + q.2) / 2 : ℤ) / 32768 : ℝ)).card
    · rw [if_pos h, if_pos (EReal.coe_le_coe_iff.mpr (by exact_mod_cast h))]
    · rw [if_neg h, if_neg (fun h' => h (by exact_mod_cast EReal.coe_le_coe_iff.mp h'))]

theorem halves_apply (sim : FVec Ideal S1024x2048 .f32) (A : Fin 1024 → Fin 2048 → ℝ)
    (hA : ∀ r k, sim (ix2 r k) = (A r k : EReal)) (r : Fin 1024) (n : ℕ) :
    ∀ (p : FVec Ideal S1024x1 .f32 × FVec Ideal S1024x1 .f32) (q : ℤ × ℤ), p.1 (ix2 r 0) = ((q.1 : ℝ) : EReal) →
      p.2 (ix2 r 0) = ((q.2 : ℝ) : EReal) →
      ((halve sim)^[n] p).1 (ix2 r 0) = ((((Knn.halve (A r))^[n] q).1 : ℝ) : EReal) := by
  induction n with
  | zero => intro p q h1 _; exact h1
  | succ n ih =>
    intro p q h1 h2
    rw [Function.iterate_succ_apply, Function.iterate_succ_apply]
    obtain ⟨h1', h2'⟩ := halve_apply sim p A hA r q h1 h2
    exact ih _ _ h1' h2'

/-- The lower end that the block finds for a row is the one the row's bisection finds. -/
theorem lower_apply (i : grid0.Coords) (x : Vec Ideal S2048x128 .bf16) (xr : Vec Ideal S1024x128 .bf16)
    (A : Fin 1024 → Fin 2048 → ℝ) (hA : ∀ r k, k0_pay2 i x xr (ix2 r k) = (A r k : EReal)) (r : Fin 1024) :
    (interval (k0_pay2 i x xr) k0_pay4 (k0_pay5 i x xr)).1 (ix2 r 0) = ((lower (A r) : ℝ) : EReal) := by
  refine halves_apply _ A hA r 13 (k0_pay4, k0_pay5 i x xr) (start (A r)) ?_ ?_
  · show k0_pay4 (F := Ideal) (ix2 r 0) = _
    pointwise [k0_pay4]
    rw [num_neg_36100]
    unfold start
    norm_num
  · show k0_pay5 i x xr (ix2 r 0) = _
    pointwise [k0_pay5]
    rw [max_apply i x xr A hA r, num_32768, ← EReal.coe_mul, Ideal.liftRound_coe, ← EReal.coe_one, ← EReal.coe_add]
    unfold start
    push_cast
    rfl

theorem same_apply (tc : Vec Ideal S1x2048 .i32) (tr : Vec Ideal S1024x1 .i32) (r : Fin 1024) (k : Fin 2048) :
    k0_pay64 tc tr (ix2 r k) = (((if tc (ix2 0 k) = tr (ix2 r 0) then 1 else 0 : ℝ)) : EReal) := by
  pointwise [k0_pay64]
  by_cases h : tc (ix2 0 k) = tr (ix2 r 0)
  · rw [if_pos h]; simp [IntOp.cmpi, Scalar.select, h]
  · rw [if_neg h]; simp [IntOp.cmpi, Scalar.select, beq_eq_false_iff_ne.mpr h]

theorem hit_apply (sim : FVec Ideal S1024x2048 .f32) (m : FVec Ideal S1024x1 .f32) (tc : Vec Ideal S1x2048 .i32)
    (tr : Vec Ideal S1024x1 .i32) (A : Fin 1024 → Fin 2048 → ℝ) (hA : ∀ r k, sim (ix2 r k) = (A r k : EReal)) (r : Fin 1024)
    (hm : m (ix2 r 0) = (best (A r) : EReal)) :
    k0_pay66 sim m tc tr (ix1 r) = (rowHit (A r) (fun k => tc (ix2 0 k) = tr (ix2 r 0)) : EReal) := by
  pointwise [k0_pay66]
  rw [num_bot]
  simp only [hA, hm, EReal.coe_eq_coe_iff, same_apply]
  exact row_hit (A r) _

theorem loss_apply (sim sf : FVec Ideal S1024x2048 .f32) (m lo : FVec Ideal S1024x1 .f32)
    (A : Fin 1024 → Fin 2048 → ℝ) (same : Fin 1024 → Fin 2048 → Prop) [∀ r, DecidablePred (same r)] (M z : Fin 1024 → ℝ)
    (hA : ∀ r k, sim (ix2 r k) = (A r k : EReal)) (hs : ∀ r k, sf (ix2 r k) = ((if same r k then 1 else 0 : ℝ) : EReal))
    (hm : ∀ r, m (ix2 r 0) = (M r : EReal)) (hz : ∀ r, lo (ix2 r 0) = (z r : EReal)) :
    lossSum sim sf m lo = ∑ r, rowLoss (atLeast (A r) (z r / 32768)) (A r) (M r) (same r) := by
  pointwise [lossSum]
  apply Finset.sum_congr rfl
  intro r _
  simp only [hA, hs, hm, hz, num_inv_32768, num_40, ← EReal.coe_mul, ← EReal.coe_sub, Ideal.exp_coe, EReal.coe_le_coe_iff, mul_one_div]
  unfold rowLoss
  rw [coe_sum, coe_sum, atLeast, Finset.sum_filter, Finset.sum_filter]
  congr 4
  · congr 1
    funext k
    by_cases h : z r / 32768 ≤ A r k
    · by_cases h' : same r k <;> simp [h, h']
    · simp [h]

end Cert.KernelIdeal.Block

end
-- ==== Proof.KernelReads.lean ====
/- The blocks the body reads at a grid point: a branch's rows, the labels of the block's rows, all the labels. -/
module

public import proofs.«01_k».proof.Proof.KernelEntry
public import proofs.«01_k».proof.Proof.BlockValue
public import Idealize.ShloMosaic.Lib.ValueLayoutCasts

@[expose] public section

noncomputable section

namespace Cert.KernelIdeal.Block

open Idealize.ShloMosaic Idealize.ShloMosaic.TcCoe Idealize.SL.Sem
open Cert.KernelIdeal Cert.KernelIdeal.Gen

set_option maxRecDepth 16384

variable (m : (ℓ : Loc nD τ sig) → Buf (Elt Ideal) ℓ)

theorem index_facts : ∀ t : Fin cfg0.N, win0_0.index t 0 = 0 ∧ win0_0.index t 1 = t.val / 2 ∧ win0_1.index t 0 = t.val % 2
    ∧ win0_1.index t 1 = 0 ∧ win0_2.index t 0 = 0 ∧ win0_2.index t 1 = 0 := by decide +kernel

theorem point_row (t : Fin cfg0.N) : (grid0.coords t 1).val = t.val % 2 := by
  rw [Pipeline.Grid.coords_val t 1 (S := 1) (B := 2) (by decide) rfl, Nat.div_one]

theorem lt_eight (t : Fin cfg0.N) : t.val < 8 := by have := t.isLt; have h : cfg0.N = 8 := N_0; omega

/-- The branches' rows, side by side. -/
def feats (x : (⟨S2048x512, .f32⟩ : BufTy).Contents (Elt Ideal)) (b : Fin 4) : (⟨S2048x128, .bf16⟩ : BufTy).Contents (Elt Ideal) :=
  match b with
  | ⟨0, _⟩ => branch (F := Ideal) (fun i => lit0 (S128.rowMajor i)) x
  | ⟨1, _⟩ => branch (F := Ideal) (fun i => lit1 (S128.rowMajor i)) x
  | ⟨2, _⟩ => branch (F := Ideal) (fun i => lit2 (S128.rowMajor i)) x
  | ⟨3, _⟩ => branch (F := Ideal) (fun i => lit3 (S128.rowMajor i)) x

theorem side_by_side (p0 p1 p2 p3 : (⟨S2048x128, .bf16⟩ : BufTy).Contents (Elt Ideal)) (b : Fin 4) (k : Fin 2048) (d : Fin 128) :
    concatenate S2048x512 1 [⟨S2048x128, p0⟩, ⟨S2048x128, p1⟩, ⟨S2048x128, p2⟩, ⟨S2048x128, p3⟩]
      concatenates_S2048x128_S2048x128_S2048x128_S2048x128_S2048x512_d1 (ix2 k ⟨b.val * 128 + d.val, by omega⟩)
      = (match b with | ⟨0, _⟩ => p0 | ⟨1, _⟩ => p1 | ⟨2, _⟩ => p2 | ⟨3, _⟩ => p3) (ix2 k d) := by
  have hd := d.isLt
  fin_cases b
  · pointwise []
  · pointwise []
  · pointwise []
    rw [dif_neg (by omega), dif_neg (by omega), dif_pos (by omega)]
    congr 2
    exact Fin.ext (show 256 + d.val - 128 - 128 = d.val by omega)
  · pointwise []
    rw [dif_neg (by omega), dif_neg (by omega), dif_neg (by omega)]
    congr 2
    exact Fin.ext (show 384 + d.val - 128 - 128 - 128 = d.val by omega)

theorem block0_apply (c : Dev nD) (t : Fin cfg0.N) (k : Fin 2048) (d : Fin 128) :
    iblk m c 0 t (ix2 k d) = feats (m ((c : Thread nD τ).loc main_arg0)) ⟨t.val / 2, by have := lt_eight t; omega⟩ (ix2 k d) := by
  obtain ⟨h0, h1, -⟩ := index_facts t
  have ht := lt_eight t
  have he : ((cfg0.win 0).blk t).view.emb (ix2 k d) = (ix2 k ⟨t.val / 2 * 128 + d.val, by omega⟩ : S2048x512.Idx) := by
    funext a; apply Fin.ext
    match a with
    | ⟨0, _⟩ => show win0_0.index t (0 : Fin 2) * 2048 + 1 * k.val = k.val; omega
    | ⟨1, _⟩ => show win0_0.index t (1 : Fin 2) * 128 + 1 * d.val = t.val / 2 * 128 + d.val; omega
  show V m c main_v44 (((cfg0.win 0).blk t).view.emb (ix2 k d)) = _
  rw [he, V_main_v44]
  exact side_by_side _ _ _ _ ⟨t.val / 2, by omega⟩ k d

theorem block1_apply (c : Dev nD) (t : Fin cfg0.N) (r : Fin 1024) :
    iblk m c 1 t (ix2 r 0) = m ((c : Thread nD τ).loc main_arg1) (ix1 (rowOf (grid0.coords t) r)) := by
  obtain ⟨-, -, h0, h1, -⟩ := index_facts t
  have hp := point_row t
  have he : ((cfg0.win 1).blk t).view.emb (ix2 r 0) = (ix2 (rowOf (grid0.coords t) r) 0 : S2048x1.Idx) := by
    funext a; apply Fin.ext
    match a with
    | ⟨0, _⟩ => show win0_1.index t (0 : Fin 2) * 1024 + 1 * r.val = (grid0.coords t 1).val * 1024 + r.val; omega
    | ⟨1, _⟩ => show win0_1.index t (1 : Fin 2) * 1 + 1 * 0 = 0; omega
  show V m c main_v45 (((cfg0.win 1).blk t).view.emb (ix2 r 0)) = _
  rw [he, V_main_v45]
  exact ValueIdx.shapeCast_a_a1_apply _ _ _ _

theorem block2_apply (c : Dev nD) (t : Fin cfg0.N) (k : Fin 2048) :
    iblk m c 2 t (ix2 0 k) = m ((c : Thread nD τ).loc main_arg1) (ix1 k) := by
  obtain ⟨-, -, -, -, h0, h1⟩ := index_facts t
  have he : ((cfg0.win 2).blk t).view.emb (ix2 0 k) = (ix2 0 k : S1x2048.Idx) := by
    funext a; apply Fin.ext
    match a with
    | ⟨0, _⟩ => show win0_2.index t (0 : Fin 2) * 1 + 1 * 0 = 0; omega
    | ⟨1, _⟩ => show win0_2.index t (1 : Fin 2) * 2048 + 1 * k.val = k.val; omega
  show V m c main_v46 (((cfg0.win 2).blk t).view.emb (ix2 0 k)) = _
  rw [he, V_main_v46]
  exact ValueIdx.shapeCast_a_1a_apply _ _ _ _

theorem rows_apply (t : Fin cfg0.N) (x : Vec Ideal S2048x128 .bf16) (r : Fin 1024) (d : Fin 128) :
    rows (grid0.coords t) x (ix2 r d) = x (ix2 (rowOf (grid0.coords t) r) d) := by
  have h : k0_off1 (grid0.coords t) = ![(grid0.coords t 1).val * 1024, 0] := by
    revert t; decide +kernel
  show x ((Rect.unit (s := S2048x128) (k0_off1 (grid0.coords t)) S1024x128.size (k0_off1_inb (grid0.coords t))).emb (ix2 r d)) = _
  congr 1
  funext a; apply Fin.ext
  match a with
  | ⟨0, _⟩ => show k0_off1 (grid0.coords t) (0 : Fin 2) + 1 * r.val = (grid0.coords t 1).val * 1024 + r.val
              rw [h]; show (grid0.coords t 1).val * 1024 + 1 * r.val = _; omega
  | ⟨1, _⟩ => show k0_off1 (grid0.coords t) (1 : Fin 2) + 1 * d.val = d.val
              rw [h]; show 0 + 1 * d.val = _; omega

end Cert.KernelIdeal.Block

end
-- ==== Proof.BlockLanes.lean ====
/- The four numbers of the output block after a point, from those before it. -/
module

public import proofs.«01_k».proof.Proof.Block
public import Idealize.ShloMosaic.Lib.Pointwise

@[expose] public section

noncomputable section

namespace Cert.KernelIdeal.Block

open Idealize.ShloMosaic Idealize.ShloMosaic.TcCoe
open Cert.KernelIdeal Cert.KernelIdeal.Gen

set_option maxRecDepth 16384

theorem lane_0 (sim sf : FVec Ideal S1024x2048 .f32) (l : Ideal .f32) (p : FVec Ideal S1024 .f32) (acc : Vec Ideal S1x128 .f32)  :
    k0_pay67 sim sf l p acc (ix2 0 0) = acc (ix2 0 0) + l := by
  pointwise [k0_pay67]
  simp [IntOp.cmpi, Scalar.select]

theorem lane_1 (sim sf : FVec Ideal S1024x2048 .f32) (l : Ideal .f32) (p : FVec Ideal S1024 .f32) (acc : Vec Ideal S1x128 .f32)  :
    k0_pay67 sim sf l p acc (ix2 0 1) = acc (ix2 0 1) + ∑ r, p (ix1 r) := by
  pointwise [k0_pay67]
  simp [IntOp.cmpi, Scalar.select]

theorem lane_2 (sim sf : FVec Ideal S1024x2048 .f32) (l : Ideal .f32) (p : FVec Ideal S1024 .f32) (acc : Vec Ideal S1x128 .f32)  :
    k0_pay67 sim sf l p acc (ix2 0 2) = acc (ix2 0 2) + ((∑ r, ∑ k, sim (ix2 r k) * sf (ix2 r k)) + Ideal.ofBits .f32 0x45000000#32) := by
  pointwise [k0_pay67]
  simp [IntOp.cmpi, Scalar.select]

theorem lane_3 (sim sf : FVec Ideal S1024x2048 .f32) (l : Ideal .f32) (p : FVec Ideal S1024 .f32) (acc : Vec Ideal S1x128 .f32)  :
    k0_pay67 sim sf l p acc (ix2 0 3) = acc (ix2 0 3) + ((∑ r, ∑ k, sim (ix2 r k)) - ∑ r, ∑ k, sim (ix2 r k) * sf (ix2 r k)) := by
  pointwise [k0_pay67]
  simp [IntOp.cmpi, Scalar.select]

end Cert.KernelIdeal.Block

end
-- ==== Proof.Pairs.lean ====
/- Sums over the pairs of rows: a row's similarities with the other rows of its label, and with the rows of another;
   and the sum over eight blocks of rows as the sum over four branches and all the rows. -/
module

public import proofs.«01_k».proof.Proof.RowTerms

@[expose] public section

noncomputable section

namespace Cert.Knn

open Finset

/-- The similarities of a row with the other rows of its label, summed. -/
def posSum (X : Fin 2048 → Fin 128 → ℝ) (same : Fin 2048 → Prop) [DecidablePred same] (i : Fin 2048) : ℝ :=
  ∑ k, if same k ∧ k ≠ i then dot X i k else 0

/-- The similarities of a row with the rows of another label, summed. -/
def negSum (X : Fin 2048 → Fin 128 → ℝ) (same : Fin 2048 → Prop) [DecidablePred same] (i : Fin 2048) : ℝ :=
  ∑ k, if same k then 0 else dot X i k

/-- The masked similarities of the rows of the label are the similarities with the others, and the row's own `-2`. -/
theorem masked_same (X : Fin 2048 → Fin 128 → ℝ) (same : Fin 2048 → Prop) [DecidablePred same] (i : Fin 2048) (h : same i) :
    ∑ k, masked X i k * (if same k then 1 else 0 : ℝ) = posSum X same i - 2 := by
  have : ∀ k, masked X i k * (if same k then 1 else 0 : ℝ)
      = (if same k ∧ k ≠ i then dot X i k else 0) + (if k = i then -2 else 0) := by
    intro k
    by_cases hk : k = i
    · subst hk; simp [masked_self, h]
    · by_cases hs : same k <;> simp [hk, hs, masked_ne hk]
  rw [sum_congr rfl fun k _ => this k, sum_add_distrib, sum_ite_eq' univ i (fun _ => (-2 : ℝ)), if_pos (mem_univ i)]
  unfold posSum
  ring

/-- The rest of the masked similarities are those with the rows of another label. -/
theorem masked_rest (X : Fin 2048 → Fin 128 → ℝ) (same : Fin 2048 → Prop) [DecidablePred same] (i : Fin 2048) (h : same i) :
    ∑ k, masked X i k - ∑ k, masked X i k * (if same k then 1 else 0 : ℝ) = negSum X same i := by
  rw [← sum_sub_distrib]
  unfold negSum
  refine sum_congr rfl fun k _ => ?_
  by_cases hs : same k
  · simp [hs]
  · have hk : k ≠ i := fun e => hs (e ▸ h)
    simp [hs, masked_ne hk]

/-- A sum over all the rows is the sum over the first half and the second. -/
theorem sum_halves {M : Type} [AddCommMonoid M] (f : ℕ → M) :
    ∑ i : Fin 2048, f i.val = ∑ r : Fin 1024, f (0 * 1024 + r.val) + ∑ r : Fin 1024, f (1 * 1024 + r.val) := by
  rw [Fin.sum_univ_add (a := 1024) (b := 1024) (f := fun i : Fin (1024 + 1024) => f i.val)]
  simp [add_comm]

/-- A sum over eight blocks of rows, two to a branch, is the sum over the branches and all their rows. -/
theorem sum_blocks {M : Type} [AddCommMonoid M] (f : Fin 4 → ℕ → M) :
    ∑ t : Fin 8, ∑ r : Fin 1024, f ⟨t.val / 2, by omega⟩ (t.val % 2 * 1024 + r.val) = ∑ b, ∑ i : Fin 2048, f b i.val := by
  simp only [sum_halves]
  rw [Fin.sum_univ_eight, Fin.sum_univ_four]
  simp only [← add_assoc]
  rfl

end Cert.Knn

end
-- ==== Proof.KernelTotals.lean ====
/- What the kernel's output array holds, in real numbers: four sums over the branches and their rows. -/
module

public import proofs.«01_k».proof.Proof.KernelReads
public import proofs.«01_k».proof.Proof.BlockLanes
public import proofs.«01_k».proof.Proof.Pairs

@[expose] public section

noncomputable section

namespace Cert.KernelIdeal.Block

open Idealize.ShloMosaic Idealize.ShloMosaic.TcCoe Idealize.SL.Sem
open Cert.KernelIdeal Cert.KernelIdeal.Gen Cert.Knn

set_option maxRecDepth 16384

variable (m : (ℓ : Loc nD τ sig) → Buf (Elt Ideal) ℓ)

/-- A number of the output array is the sum of what the eight points add to it. -/
theorem total_lane (c : Dev nD) (j : Fin 128) (S : Fin 8 → EReal)
    (h : ∀ (t : Fin cfg0.N) (acc : Vec Ideal S1x128 .f32),
      result (grid0.coords t) (iblk m c 0 t) (rows (grid0.coords t) (iblk m c 0 t)) (iblk m c 1 t) (iblk m c 2 t) acc (ix2 0 j)
        = acc (ix2 0 j) + S ⟨t.val, lt_eight t⟩) :
    total m c (ix2 0 j) = ∑ t, S t := by
  have hN : cfg0.N = 8 := N_0
  have h0 : chain m c 0 (by omega) (ix2 0 j) = S 0 := by
    refine (h ⟨0, by omega⟩ (k0_pay1 (F := Ideal))).trans ?_
    have : k0_pay1 (F := Ideal) (ix2 0 j) = 0 := by pointwise [k0_pay1]
    rw [this, zero_add]; rfl
  have hs : ∀ (n : ℕ) (hn : n + 1 < cfg0.N), chain m c (n + 1) hn (ix2 0 j)
      = chain m c n (Nat.lt_of_succ_lt hn) (ix2 0 j) + S ⟨n + 1, by omega⟩ := fun n hn => h ⟨n + 1, hn⟩ _
  show chain m c 7 _ (ix2 0 j) = _
  rw [hs 6, hs 5, hs 4, hs 3, hs 2, hs 1, hs 0, h0, Fin.sum_univ_eight]
  rfl

section sums
variable (c : Dev nD) (X : Fin 4 → Fin 2048 → Fin 128 → ℝ)

/-- Whether two rows have one label. -/
def same (t : (⟨S2048, .i32⟩ : BufTy).Contents (Elt Ideal)) (i k : Fin 2048) : Prop := t (ix1 k) = t (ix1 i)

instance (t : (⟨S2048, .i32⟩ : BufTy).Contents (Elt Ideal)) (i : Fin 2048) : DecidablePred (same t i) :=
  fun k => inferInstanceAs (Decidable (t (ix1 k) = t (ix1 i)))

variable (hX : ∀ b k d, feats (m ((c : Thread nD τ).loc main_arg0)) b (ix2 k d) = (X b k d : EReal))

/-- The branch of a point. -/
def branchOf (t : Fin 8) : Fin 4 := ⟨t.val / 2, by omega⟩

/-- Row `r` of the block at a point. -/
def rowAt (t : Fin 8) (r : Fin 1024) : Fin 2048 := ⟨t.val % 2 * 1024 + r.val, by omega⟩

theorem rowOf_coords (t : Fin cfg0.N) (r : Fin 1024) : rowOf (grid0.coords t) r = rowAt ⟨t.val, lt_eight t⟩ r :=
  Fin.ext (show (grid0.coords t 1).val * 1024 + r.val = t.val % 2 * 1024 + r.val by rw [point_row])

include hX in
theorem sim_at (t : Fin cfg0.N) (r : Fin 1024) (k : Fin 2048) :
    k0_pay2 (grid0.coords t) (iblk m c 0 t) (rows (grid0.coords t) (iblk m c 0 t)) (ix2 r k)
      = (masked (X (branchOf ⟨t.val, lt_eight t⟩)) (rowAt ⟨t.val, lt_eight t⟩ r) k : EReal) := by
  rw [sim_apply (grid0.coords t) _ _ (X (branchOf ⟨t.val, lt_eight t⟩))
    (fun k d => (block0_apply m c t k d).trans (hX _ k d))
    (fun r d => (rows_apply t _ r d).trans ((block0_apply m c t _ d).trans (hX _ _ d))), rowOf_coords]

theorem same_at (t : Fin cfg0.N) (r : Fin 1024) (k : Fin 2048) :
    k0_pay64 (iblk m c 2 t) (iblk m c 1 t) (ix2 r k)
      = ((if same (m ((c : Thread nD τ).loc main_arg1)) (rowAt ⟨t.val, lt_eight t⟩ r) k then 1 else 0 : ℝ) : EReal) := by
  rw [same_apply, block1_apply, block2_apply, rowOf_coords]
  rfl

/-- A sum over the points' rows is a sum over the branches' rows. -/
theorem sum_points {M : Type} [AddCommMonoid M] (f : Fin 4 → Fin 2048 → M) :
    ∑ t : Fin 8, ∑ r : Fin 1024, f (branchOf t) (rowAt t r) = ∑ b, ∑ i, f b i := by
  have h := sum_blocks (fun b n => if hn : n < 2048 then f b ⟨n, hn⟩ else 0)
  refine Eq.trans ?_ (h.trans ?_)
  · refine Finset.sum_congr rfl fun t _ => Finset.sum_congr rfl fun r _ => ?_
    have hn : t.val % 2 * 1024 + r.val < 2048 := (rowAt t r).isLt
    rw [dif_pos hn]
    rfl
  · refine Finset.sum_congr rfl fun b _ => Finset.sum_congr rfl fun i _ => ?_
    exact dif_pos i.isLt

include hX in
/-- The first number: the losses of all the rows. -/
theorem total_0 : total m c (ix2 0 0) = ∑ b, ∑ i, rowLoss (atLeast (masked (X b) i) ((lower (masked (X b) i) : ℝ) / 32768))
    (masked (X b) i) (best (masked (X b) i)) (same (m ((c : Thread nD τ).loc main_arg1)) i) := by
  rw [← sum_points (fun b i => rowLoss (atLeast (masked (X b) i) ((lower (masked (X b) i) : ℝ) / 32768))
    (masked (X b) i) (best (masked (X b) i)) (same (m ((c : Thread nD τ).loc main_arg1)) i))]
  refine total_lane m c 0 _ fun t acc => ?_
  unfold result
  rw [lane_0]
  refine congrArg (acc (ix2 0 0) + ·) ?_
  exact loss_apply _ _ _ _ (fun r k => masked (X (branchOf ⟨t.val, lt_eight t⟩)) (rowAt ⟨t.val, lt_eight t⟩ r) k)
    (fun r => same (m ((c : Thread nD τ).loc main_arg1)) (rowAt ⟨t.val, lt_eight t⟩ r)) _ _ (sim_at m c X hX t) (same_at m c t)
    (max_apply _ _ _ _ (sim_at m c X hX t)) (lower_apply _ _ _ _ (sim_at m c X hX t))

include hX in
/-- The second: how many rows have a nearest row of their label. -/
theorem total_1 : total m c (ix2 0 1) = ((∑ b, ∑ i, rowHit (masked (X b) i) (same (m ((c : Thread nD τ).loc main_arg1)) i) : ℝ) : EReal) := by
  rw [← sum_points (fun b i => rowHit (masked (X b) i) (same (m ((c : Thread nD τ).loc main_arg1)) i)), coe_sum]
  refine total_lane m c 1 _ fun t acc => ?_
  unfold result
  rw [lane_1, coe_sum]
  refine congrArg (acc (ix2 0 1) + ·) ?_
  refine Finset.sum_congr rfl fun r _ => ?_
  rw [hit_apply _ _ _ _ (fun r k => masked (X (branchOf ⟨t.val, lt_eight t⟩)) (rowAt ⟨t.val, lt_eight t⟩ r) k)
    (sim_at m c X hX t) r (max_apply _ _ _ _ (sim_at m c X hX t) r)]
  congr 2
  funext k
  rw [block1_apply, block2_apply, rowOf_coords]
  rfl

include hX in
theorem sum_same (t : Fin cfg0.N) :
    ∑ r, ∑ k, k0_pay2 (grid0.coords t) (iblk m c 0 t) (rows (grid0.coords t) (iblk m c 0 t)) (ix2 r k)
        * k0_pay64 (iblk m c 2 t) (iblk m c 1 t) (ix2 r k)
      = ((∑ r, (posSum (X (branchOf ⟨t.val, lt_eight t⟩)) (same (m ((c : Thread nD τ).loc main_arg1)) (rowAt ⟨t.val, lt_eight t⟩ r))
          (rowAt ⟨t.val, lt_eight t⟩ r) - 2) : ℝ) : EReal) := by
  rw [coe_sum]
  refine Finset.sum_congr rfl fun r _ => ?_
  rw [← masked_same _ _ _ (show same _ _ _ from rfl), coe_sum]
  refine Finset.sum_congr rfl fun k _ => ?_
  rw [sim_at m c X hX, same_at, EReal.coe_mul]

include hX in
/-- The third: the similarities of the rows with the others of their label. -/
theorem total_2 : total m c (ix2 0 2) = ((∑ b, ∑ i, posSum (X b) (same (m ((c : Thread nD τ).loc main_arg1)) i) i : ℝ) : EReal) := by
  rw [← sum_points (fun b i => posSum (X b) (same (m ((c : Thread nD τ).loc main_arg1)) i) i), coe_sum]
  refine total_lane m c 2 _ fun t acc => ?_
  unfold result
  rw [lane_2, sum_same m c X hX, num_2048, ← EReal.coe_add]
  congr 2
  rw [Finset.sum_sub_distrib]
  simp
  norm_num

include hX in
/-- The fourth: the similarities of the rows with the rows of another label. -/
theorem total_3 : total m c (ix2 0 3) = ((∑ b, ∑ i, negSum (X b) (same (m ((c : Thread nD τ).loc main_arg1)) i) i : ℝ) : EReal) := by
  rw [← sum_points (fun b i => negSum (X b) (same (m ((c : Thread nD τ).loc main_arg1)) i) i), coe_sum]
  refine total_lane m c 3 _ fun t acc => ?_
  unfold result
  have ha : ∑ r, ∑ k, k0_pay2 (grid0.coords t) (iblk m c 0 t) (rows (grid0.coords t) (iblk m c 0 t)) (ix2 r k)
      = ((∑ r, ∑ k, masked (X (branchOf ⟨t.val, lt_eight t⟩)) (rowAt ⟨t.val, lt_eight t⟩ r) k : ℝ) : EReal) := by
    rw [coe_sum]
    refine Finset.sum_congr rfl fun r _ => ?_
    rw [coe_sum]
    exact Finset.sum_congr rfl fun k _ => sim_at m c X hX t r k
  rw [lane_3, sum_same m c X hX, ha, ← EReal.coe_sub]
  congr 2
  rw [← Finset.sum_sub_distrib]
  refine Finset.sum_congr rfl fun r _ => ?_
  rw [← masked_same _ _ _ (show same _ _ _ from rfl)]
  exact masked_rest _ _ _ rfl

end sums

end Cert.KernelIdeal.Block

end
-- ==== Proof.KernelRun.lean ====
/- What the kernel's four results are of its output array. -/
module

public import proofs.«01_k».proof.Proof.Block
public import Idealize.ShloMosaic.Lib.StableHlo.Run
public import Idealize.ShloMosaic.Lib.Pipeline.FrameSuffix

@[expose] public section

noncomputable section

namespace Cert.KernelIdeal.Block

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- One number of the output array, as a result of the program divides it. -/
def lane (acc : (⟨S1x128, .f32⟩ : BufTy).Contents (Elt F)) (k : Fin 1 → Nat) (h : S128.Slices k S1) : (⟨S_, .f32⟩ : BufTy).Contents (Elt F) :=
  shapeCast S_ (extractStridedSlice S1 k (shapeCast S128 acc shapeCasts_S1x128_S128) h) shapeCasts_S1_S_

/-- The sum over the classes of the square of how many rows have the class. -/
def squares (t : (⟨S2048, .i32⟩ : BufTy).Contents (Elt F)) : (⟨S_, .f32⟩ : BufTy).Contents (Elt F) :=
  let hot : (⟨S2048x100, .f32⟩ : BufTy).Contents (Elt F) := uitofp .f32 (cmpi .eq
    (broadcastInDim S2048x100 ![0, 1] bcast_S2048x1_S2048x100_0_1 (broadcastInDim S2048x1 ![0] bcast_S2048_S2048x1_0 t))
    (broadcastInDim S2048x100 ![0, 1] bcast_S1x100_S2048x100_0_1 (broadcastInDim S1x100 ![1] bcast_S100_S1x100_1 (iotaInDim S100 32 0))))
  let n : (⟨S100, .f32⟩ : BufTy).Contents (Elt F) := Host.reduceAdd hot (constant S_ .f32 0x00000000#32) reducesTo_S2048x100_S100_d0 h_S_
  Host.reduceAdd (mulf n n) (constant S_ .f32 0x00000000#32) reducesTo_S100_S_d0 h_S_

/-- The kernel's four results: each a number of the output array over a count. -/
def res0 (acc : (⟨S1x128, .f32⟩ : BufTy).Contents (Elt F)) : (⟨S_, .f32⟩ : BufTy).Contents (Elt F) :=
  Host.divf (lane acc ![0] slices_S128_S1_0) (constant S_ .f32 0x46000000#32)
def res1 (acc : (⟨S1x128, .f32⟩ : BufTy).Contents (Elt F)) : (⟨S_, .f32⟩ : BufTy).Contents (Elt F) :=
  Host.divf (lane acc ![1] slices_S128_S1_1) (constant S_ .f32 0x46000000#32)
def res2 (acc : (⟨S1x128, .f32⟩ : BufTy).Contents (Elt F)) (t : (⟨S2048, .i32⟩ : BufTy).Contents (Elt F)) : (⟨S_, .f32⟩ : BufTy).Contents (Elt F) :=
  Host.divf (lane acc ![2] slices_S128_S1_2)
    (maximumf (mulf (constant S_ .f32 0x40800000#32) (subf (squares t) (constant S_ .f32 0x45000000#32))) (constant S_ .f32 0x3F800000#32))
def res3 (acc : (⟨S1x128, .f32⟩ : BufTy).Contents (Elt F)) (t : (⟨S2048, .i32⟩ : BufTy).Contents (Elt F)) : (⟨S_, .f32⟩ : BufTy).Contents (Elt F) :=
  Host.divf (lane acc ![3] slices_S128_S1_3)
    (maximumf (mulf (constant S_ .f32 0x40800000#32) (subf (constant S_ .f32 0x4A800000#32) (squares t))) (constant S_ .f32 0x3F800000#32))

theorem entry_v47 (c : Dev nD) :
    Pipeline.withArrays spec0 c (V0 m c) (fun w => (dats m 0 c).arrAt w cfg0.N) (Proc.devRef .tc main_v47) = total m c :=
  (Pipeline.withArrays_arr spec0 launch0.win.arr_inj c (V0 m c) _ 3).trans (final_o m c)

theorem entry_arg1 (c : Dev nD) :
    Pipeline.withArrays spec0 c (V0 m c) (fun w => (dats m 0 c).arrAt w cfg0.N) (Proc.devRef .tc main_arg1)
      = m ((c : Thread nD τ).loc main_arg1) :=
  (Pipeline.withArrays_of_ne spec0 c (V0 m c) _ main_arg1 (by exact (by decide : ∀ w, Pipeline.arrRef spec0 w ≠ main_arg1))).trans
    (V_main_arg1 m c)

set_option maxHeartbeats 4000000 in
set_option maxRecDepth 8192 in
theorem after_v65 (E : Valuation τ sig (Elt F)) : StableHlo.after (List.flatten [hostOps1]) E (Proc.devRef .tc main_v65) = res0 (E (Proc.devRef .tc main_v47)) := by
  simp only [hostOps1, List.flatten_cons, List.flatten_nil, List.append_nil]
  after_results_simp
  rfl

theorem tail_v65 (c : Dev nD) : Pipeline.afterTail₀ cfgs (dats m) 0 (V0 m) [hostOps1] c main_v65 = res0 (total m c) := by
  unfold Pipeline.afterTail₀
  refine (after_v65 _).trans ?_
  rw [entry_v47 m c]

set_option maxHeartbeats 4000000 in
set_option maxRecDepth 8192 in
theorem after_v68 (E : Valuation τ sig (Elt F)) : StableHlo.after (List.flatten [hostOps1]) E (Proc.devRef .tc main_v68) = res1 (E (Proc.devRef .tc main_v47)) := by
  simp only [hostOps1, List.flatten_cons, List.flatten_nil, List.append_nil]
  after_results_simp
  rfl

theorem tail_v68 (c : Dev nD) : Pipeline.afterTail₀ cfgs (dats m) 0 (V0 m) [hostOps1] c main_v68 = res1 (total m c) := by
  unfold Pipeline.afterTail₀
  refine (after_v68 _).trans ?_
  rw [entry_v47 m c]

set_option maxHeartbeats 4000000 in
set_option maxRecDepth 8192 in
theorem after_v72 (E : Valuation τ sig (Elt F)) : StableHlo.after (List.flatten [hostOps1]) E (Proc.devRef .tc main_v72) = res2 (E (Proc.devRef .tc main_v47)) (E (Proc.devRef .tc main_arg1)) := by
  simp only [hostOps1, List.flatten_cons, List.flatten_nil, List.append_nil]
  after_results_simp
  rfl

theorem tail_v72 (c : Dev nD) : Pipeline.afterTail₀ cfgs (dats m) 0 (V0 m) [hostOps1] c main_v72 = res2 (total m c) (m ((c : Thread nD τ).loc main_arg1)) := by
  unfold Pipeline.afterTail₀
  refine (after_v72 _).trans ?_
  rw [entry_v47 m c, entry_arg1 m c]

set_option maxHeartbeats 4000000 in
set_option maxRecDepth 8192 in
theorem after_v76 (E : Valuation τ sig (Elt F)) : StableHlo.after (List.flatten [hostOps1]) E (Proc.devRef .tc main_v76) = res3 (E (Proc.devRef .tc main_v47)) (E (Proc.devRef .tc main_arg1)) := by
  simp only [hostOps1, List.flatten_cons, List.flatten_nil, List.append_nil]
  after_results_simp
  rfl

theorem tail_v76 (c : Dev nD) : Pipeline.afterTail₀ cfgs (dats m) 0 (V0 m) [hostOps1] c main_v76 = res3 (total m c) (m ((c : Thread nD τ).loc main_arg1)) := by
  unfold Pipeline.afterTail₀
  refine (after_v76 _).trans ?_
  rw [entry_v47 m c, entry_arg1 m c]

/-- The kernel's run: its results, and its arguments unchanged. -/
theorem run : θ_run defs (onTc (τ := τ) (main (F := F))) ⟨m, fun _ => 0, ρ⟩ (fun r => ∀ c : Dev nD,
      r.2.mem ((c.tc : Thread nD τ).loc main_v65) = res0 (total m c)
      ∧ r.2.mem ((c.tc : Thread nD τ).loc main_v68) = res1 (total m c)
      ∧ r.2.mem ((c.tc : Thread nD τ).loc main_v72) = res2 (total m c) (m ((c : Thread nD τ).loc main_arg1))
      ∧ r.2.mem ((c.tc : Thread nD τ).loc main_v76) = res3 (total m c) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v65 (Pipeline.mem_restRefs_of main_v65 (by decide) (by decide))).trans (tail_v65 m c),
     ((h c).2 main_v68 (Pipeline.mem_restRefs_of main_v68 (by decide) (by decide))).trans (tail_v68 m c),
     ((h c).2 main_v72 (Pipeline.mem_restRefs_of main_v72 (by decide) (by decide))).trans (tail_v72 m c),
     ((h c).2 main_v76 (Pipeline.mem_restRefs_of main_v76 (by decide) (by decide))).trans (tail_v76 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Block

end
-- ==== Proof.PairCounts.lean ====
/- How many pairs of rows there are with the same label, and with different labels. Nothing here is about a program. -/
module

public import proofs.«01_k».proof.Proof.Rows

@[expose] public section

noncomputable section

namespace Cert.Knn

open Finset

/-- The number of pairs that satisfy `P`. -/
def pairs (P : Fin 2048 → Fin 2048 → Prop) [∀ i k, Decidable (P i k)] : ℕ :=
  (univ.filter fun x : Fin 2048 × Fin 2048 => P x.1 x.2).card

theorem pairs_le (P : Fin 2048 → Fin 2048 → Prop) [∀ i k, Decidable (P i k)] : pairs P ≤ 4194304 := by
  refine (card_filter_le _ _).trans ?_
  rw [card_univ, Fintype.card_prod, Fintype.card_fin]

/-- It is a sum of ones, row by row. -/
theorem pairs_sum (P : Fin 2048 → Fin 2048 → Prop) [∀ i k, Decidable (P i k)] :
    pairs P = ∑ i, ∑ k, if P i k then 1 else 0 := by
  unfold pairs
  rw [card_filter, Fintype.sum_prod_type]

/-- Every pair is one of the same, or not. -/
theorem pairs_not (P : Fin 2048 → Fin 2048 → Prop) [∀ i k, Decidable (P i k)] :
    pairs (fun i k => ¬ P i k) + pairs P = 4194304 := by
  unfold pairs
  rw [Nat.add_comm, card_filter_add_card_filter_not, card_univ, Fintype.card_prod, Fintype.card_fin]

/-- The pairs of different rows of a reflexive relation are all its pairs but 2048. -/
theorem pairs_ne (P : Fin 2048 → Fin 2048 → Prop) [∀ i k, Decidable (P i k)] (h : ∀ i, P i i) :
    pairs (fun i k => P i k ∧ k ≠ i) + 2048 = pairs P := by
  rw [pairs_sum, pairs_sum]
  have h1 : ∀ i, (∑ k, if P i k ∧ k ≠ i then 1 else 0) + 1 = ∑ k, if P i k then 1 else 0 := by
    intro i
    have h2 : (1 : ℕ) = ∑ k, if k = i then 1 else 0 := by rw [sum_ite_eq' univ i, if_pos (mem_univ i)]
    conv_lhs => rw [h2]
    rw [← sum_add_distrib]
    refine sum_congr rfl fun k _ => ?_
    by_cases hk : k = i
    · subst hk; simp [h]
    · simp [hk]
  have h3 : (2048 : ℕ) = ∑ _i : Fin 2048, 1 := by rw [sum_const, card_univ, Fintype.card_fin]; rfl
  refine (congrArg (_ + ·) h3).trans ?_
  rw [← sum_add_distrib]
  exact sum_congr rfl fun i _ => h1 i

/-- If no pair satisfies `P`, none does. -/
theorem pairs_zero (P : Fin 2048 → Fin 2048 → Prop) [∀ i k, Decidable (P i k)] (h : pairs P = 0) (i k : Fin 2048) : ¬ P i k := by
  intro hp
  rw [pairs_sum] at h
  have h1 := sum_eq_zero_iff.mp (sum_eq_zero_iff.mp h i (mem_univ i)) k (mem_univ k)
  rw [if_pos hp] at h1
  exact one_ne_zero h1

/-- Means over one number of pairs, averaged over four branches, are the whole sum over four times the number. -/
theorem mean_of_means (P : Fin 2048 → Fin 2048 → Prop) [∀ i k, Decidable (P i k)] (f : Fin 4 → Fin 2048 → Fin 2048 → ℝ) :
    (∑ b, (∑ i, ∑ k, if P i k then f b i k else 0) / max (pairs P : ℝ) 1) / 4
      = (∑ b, ∑ i, ∑ k, if P i k then f b i k else 0) / max (4 * (pairs P : ℝ)) 1 := by
  rw [← sum_div]
  rcases Nat.eq_zero_or_pos (pairs P) with h | h
  · have h0 : (∑ b, ∑ i, ∑ k, if P i k then f b i k else 0) = 0 :=
      sum_eq_zero fun b _ => sum_eq_zero fun i _ => sum_eq_zero fun k _ => if_neg (pairs_zero P h i k)
    rw [h0, zero_div, zero_div, zero_div]
  · have h1 : (1 : ℝ) ≤ (pairs P : ℝ) := by exact_mod_cast h
    rw [max_eq_left h1, max_eq_left (by linarith), div_div, mul_comm]

end Cert.Knn

end
-- ==== Proof.KernelResults.lean ====
/- The kernel's results from its output array, in real numbers. -/
module

public import proofs.«01_k».proof.Proof.KernelRun
public import proofs.«01_k».proof.Proof.Numbers
public import proofs.«01_k».proof.Proof.PairCounts
public import Idealize.ShloMosaic.Lib.Pointwise

@[expose] public section

noncomputable section

namespace Cert.KernelIdeal.Block

open Idealize.ShloMosaic Idealize.ShloMosaic.TcCoe Idealize.SL.Sem
open Cert.KernelIdeal Cert.KernelIdeal.Gen Cert.Knn

set_option maxRecDepth 16384

theorem max_real (x y : ℝ) : max (x : EReal) (y : EReal) = ((max x y : ℝ) : EReal) :=
  (EReal.coe_strictMono.monotone.map_max).symm

/-- The classes two labels have in common: one or none. -/
theorem common_class (a b : BitVec 32) (ha : a.toNat < 100) :
    (∑ c : Fin 100, (if a = BitVec.ofNat 32 c.val then 1 else 0 : ℝ) * (if b = BitVec.ofNat 32 c.val then 1 else 0))
      = if b = a then 1 else 0 := by
  have hself : a = BitVec.ofNat 32 (⟨a.toNat, ha⟩ : Fin 100).val :=
    BitVec.eq_of_toNat_eq (by rw [BitVec.toNat_ofNat, Nat.mod_eq_of_lt a.isLt])
  rw [Finset.sum_eq_single (⟨a.toNat, ha⟩ : Fin 100)]
  · rw [← hself, if_pos rfl, one_mul]
  · intro c _ hc
    have : ¬ a = BitVec.ofNat 32 c.val := by
      intro e
      apply hc
      have h1 := congrArg BitVec.toNat e
      rw [BitVec.toNat_ofNat, Nat.mod_eq_of_lt (by omega)] at h1
      exact Fin.ext h1.symm
    rw [if_neg this, zero_mul]
  · intro h; exact absurd (Finset.mem_univ _) h

/-- The squared class sizes add up to the pairs of rows with the same label. -/
theorem squares_eq (t : (⟨S2048, .i32⟩ : BufTy).Contents (Elt Ideal)) (ht : ∀ i, (t (ix1 i)).toNat < 100) (j) :
    squares (F := Ideal) t j = ((pairs fun i k => t (ix1 k) = t (ix1 i) : ℝ) : EReal) := by
  have hu : ∀ i (c : Fin 100), (FloatOps.uitofp (F := Ideal) .f32 (IntOp.cmpi .eq (t (ix1 i)) (BitVec.ofNat 32 c.val)) : EReal)
      = ((if t (ix1 i) = BitVec.ofNat 32 c.val then 1 else 0 : ℝ) : EReal) := by
    intro i c
    have : (FloatOps.uitofp (F := Ideal) .f32 (IntOp.cmpi .eq (t (ix1 i)) (BitVec.ofNat 32 c.val)) : EReal)
        = (((IntOp.cmpi .eq (t (ix1 i)) (BitVec.ofNat 32 c.val)).toNat : ℝ) : EReal) := rfl
    rw [this]
    simp only [IntOp.cmpi]
    by_cases h : t (ix1 i) = BitVec.ofNat 32 c.val
    · rw [if_pos h, beq_iff_eq.mpr h]; simp
    · rw [if_neg h, beq_eq_false_iff_ne.mpr h]; simp
  have hs : squares (F := Ideal) t j
      = ∑ c : Fin 100, (∑ i, (FloatOps.uitofp (F := Ideal) .f32 (IntOp.cmpi .eq (t (ix1 i)) (BitVec.ofNat 32 c.val)) : EReal))
        * (∑ i, (FloatOps.uitofp (F := Ideal) .f32 (IntOp.cmpi .eq (t (ix1 i)) (BitVec.ofNat 32 c.val)) : EReal)) := by
    pointwise [squares]
  rw [hs]
  have hc : ∀ c : Fin 100, (∑ i, (FloatOps.uitofp (F := Ideal) .f32 (IntOp.cmpi .eq (t (ix1 i)) (BitVec.ofNat 32 c.val)) : EReal))
      = ((∑ i, if t (ix1 i) = BitVec.ofNat 32 c.val then 1 else 0 : ℝ) : EReal) := by
    intro c
    rw [coe_sum]
    exact Finset.sum_congr rfl fun i _ => hu i c
  have hr : (∑ c : Fin 100, (∑ i, if t (ix1 i) = BitVec.ofNat 32 c.val then 1 else 0 : ℝ) * (∑ i, if t (ix1 i) = BitVec.ofNat 32 c.val then 1 else 0 : ℝ))
      = (pairs fun i k => t (ix1 k) = t (ix1 i) : ℝ) := by
    rw [pairs_sum, Nat.cast_sum]
    simp only [Finset.sum_mul_sum]
    rw [Finset.sum_comm]
    refine Finset.sum_congr rfl fun i _ => ?_
    rw [Finset.sum_comm, Nat.cast_sum]
    refine Finset.sum_congr rfl fun k _ => ?_
    rw [common_class _ _ (ht i)]
    split <;> simp
  rw [← hr, coe_sum]
  exact Finset.sum_congr rfl fun c _ => by rw [hc c, EReal.coe_mul]

/-- The first result is the first number over 8192, -/
theorem res0_eq (acc : (⟨S1x128, .f32⟩ : BufTy).Contents (Elt Ideal)) (j) :
    res0 (F := Ideal) acc j = Ideal.div (acc (ix2 0 0)) ((8192 : ℝ) : EReal) := by
  rw [← num_8192]
  pointwise [res0, lane]

/-- the second the second number over 8192, -/
theorem res1_eq (acc : (⟨S1x128, .f32⟩ : BufTy).Contents (Elt Ideal)) (j) :
    res1 (F := Ideal) acc j = Ideal.div (acc (ix2 0 1)) ((8192 : ℝ) : EReal) := by
  rw [← num_8192]
  pointwise [res1, lane]

/-- A number over four times another less 2048, or one; -/
theorem over_less (acc : (⟨S1x128, .f32⟩ : BufTy).Contents (Elt Ideal)) (q : (⟨S_, .f32⟩ : BufTy).Contents (Elt Ideal)) (j) :
    Host.divf (F := Ideal) (φ := .f32) (lane (F := Ideal) acc ![2] slices_S128_S1_2)
      (maximumf (F := Ideal) (φ := .f32) (mulf (F := Ideal) (φ := .f32) (constant S_ .f32 0x40800000#32)
        (subf (F := Ideal) (φ := .f32) q (constant S_ .f32 0x45000000#32))) (constant S_ .f32 0x3F800000#32)) j
      = Ideal.div (acc (ix2 0 2))
        (max (Ideal.ofBits .f32 0x40800000#32 * (q j - Ideal.ofBits .f32 0x45000000#32)) (Ideal.ofBits .f32 0x3F800000#32)) := by
  pointwise [lane]

/-- and over four times 4194304 less another, or one. -/
theorem over_rest (acc : (⟨S1x128, .f32⟩ : BufTy).Contents (Elt Ideal)) (q : (⟨S_, .f32⟩ : BufTy).Contents (Elt Ideal)) (j) :
    Host.divf (F := Ideal) (φ := .f32) (lane (F := Ideal) acc ![3] slices_S128_S1_3)
      (maximumf (F := Ideal) (φ := .f32) (mulf (F := Ideal) (φ := .f32) (constant S_ .f32 0x40800000#32)
        (subf (F := Ideal) (φ := .f32) (constant S_ .f32 0x4A800000#32) q)) (constant S_ .f32 0x3F800000#32)) j
      = Ideal.div (acc (ix2 0 3))
        (max (Ideal.ofBits .f32 0x40800000#32 * (Ideal.ofBits .f32 0x4A800000#32 - q j)) (Ideal.ofBits .f32 0x3F800000#32)) := by
  pointwise [lane]

/-- the third the third number over four times the pairs of different rows with the same label, or one, -/
theorem res2_eq (acc : (⟨S1x128, .f32⟩ : BufTy).Contents (Elt Ideal)) (t : (⟨S2048, .i32⟩ : BufTy).Contents (Elt Ideal))
    (ht : ∀ i, (t (ix1 i)).toNat < 100) (p : ℝ) (hp : acc (ix2 0 2) = (p : EReal)) (j) :
    res2 (F := Ideal) acc t j = ((p / max (4 * (pairs fun i k => t (ix1 k) = t (ix1 i) ∧ k ≠ i : ℝ)) 1 : ℝ) : EReal) := by
  have h : res2 (F := Ideal) acc t j = Ideal.div (acc (ix2 0 2))
      (max (Ideal.ofBits .f32 0x40800000#32 * (squares (F := Ideal) t j - Ideal.ofBits .f32 0x45000000#32)) (Ideal.ofBits .f32 0x3F800000#32)) := by
    exact over_less acc (squares (F := Ideal) t) j
  have hn := pairs_ne (fun i k => t (ix1 k) = t (ix1 i)) (fun i => rfl)
  rw [h, hp, squares_eq t ht, num_4, num_2048, sub_real, Ideal.ofBits_one_f32, ← EReal.coe_mul, ← EReal.coe_one, max_real, ← hn]
  push_cast
  rw [add_sub_cancel_right, div_real _ (ne_of_gt (lt_of_lt_of_le one_pos (le_max_right _ _)))]

/-- and the fourth the fourth number over four times the pairs with different labels, or one. -/
theorem res3_eq (acc : (⟨S1x128, .f32⟩ : BufTy).Contents (Elt Ideal)) (t : (⟨S2048, .i32⟩ : BufTy).Contents (Elt Ideal))
    (ht : ∀ i, (t (ix1 i)).toNat < 100) (p : ℝ) (hp : acc (ix2 0 3) = (p : EReal)) (j) :
    res3 (F := Ideal) acc t j = ((p / max (4 * (pairs fun i k => ¬ t (ix1 k) = t (ix1 i) : ℝ)) 1 : ℝ) : EReal) := by
  have h : res3 (F := Ideal) acc t j = Ideal.div (acc (ix2 0 3))
      (max (Ideal.ofBits .f32 0x40800000#32 * (Ideal.ofBits .f32 0x4A800000#32 - squares (F := Ideal) t j)) (Ideal.ofBits .f32 0x3F800000#32)) := by
    exact over_rest acc (squares (F := Ideal) t) j
  have hn := pairs_not (fun i k => t (ix1 k) = t (ix1 i))
  have hr : (4194304 : ℝ) = (pairs fun i k => ¬ t (ix1 k) = t (ix1 i) : ℝ) + (pairs fun i k => t (ix1 k) = t (ix1 i) : ℝ) := by
    rw [← Nat.cast_add, hn]; norm_num
  rw [h, hp, squares_eq t ht, num_4, num_4194304, sub_real, Ideal.ofBits_one_f32, ← EReal.coe_mul, ← EReal.coe_one, max_real, hr,
    add_sub_cancel_right, div_real _ (ne_of_gt (lt_of_lt_of_le one_pos (le_max_right _ _)))]

end Cert.KernelIdeal.Block

end
-- ==== Proof.Reference.lean ====
/- The reference's four results, branch by branch: the sequence of its operations, each named once for all four
   branches. -/
module

public import proofs.«01_k».proof.Proof.Gen.ReferenceIdeal.Run

@[expose] public section

noncomputable section

namespace Cert.ReferenceIdeal.Branch

open Idealize.ShloMosaic Idealize.ShloMosaic.TcCoe Idealize.SL.Sem
open Cert.ReferenceIdeal Cert.ReferenceIdeal.Gen

variable {F : FTy → Type} [FloatOps F]

abbrev Inputs (F : FTy → Type) [FloatOps F] := (⟨S2048x512, .f32⟩ : BufTy).Contents (Elt F)
abbrev Labels (F : FTy → Type) [FloatOps F] := (⟨S2048, .i32⟩ : BufTy).Contents (Elt F)
abbrev Rows (F : FTy → Type) [FloatOps F] := (⟨S2048x128, .f32⟩ : BufTy).Contents (Elt F)
abbrev Square (F : FTy → Type) [FloatOps F] := (⟨S2048x2048, .f32⟩ : BufTy).Contents (Elt F)
abbrev Near (F : FTy → Type) [FloatOps F] := (⟨S2048x100, .f32⟩ : BufTy).Contents (Elt F)
abbrev One (F : FTy → Type) [FloatOps F] := (⟨S_, .f32⟩ : BufTy).Contents (Elt F)

/-- The columns of a branch. -/
def columns (ix : IVec S128 32) (x : Inputs F) : Rows F :=
  Host.gather gather_S2048x512_S128x1_S2048x128_0_1_n_n_1_1_20481 x
    (broadcastInDim S128x1 ![0] bcast_S128_S128x1_0
      (select (constantI S128 1 0#1) (addi ix (broadcastInDim S128 ![] bcast_S_S128 (constantI S_ 32 512#32))) ix))

/-- The rows over their norms. -/
def normalize (g : Rows F) : Rows F :=
  Host.divf g (broadcastInDim S2048x128 ![0, 1] bcast_S2048x1_S2048x128_0_1
    (Host.sqrt (broadcastInDim S2048x1 ![0] bcast_S2048_S2048x1_0
      (Host.reduceAdd (mulf g g) (constant S_ .f32 0x00000000#32) reducesTo_S2048x128_S2048_d1 h_S_))))

/-- The rows' similarities. -/
def similar (n : Rows F) : Square F :=
  Host.dotGeneral dot_S2048x128_S128x2048_S2048x2048_1_0_0_1_n_n none n
    (transpose S128x2048 [1, 0] n transposes_S2048x128_S128x2048_1_0)

/-- A row against itself. -/
def itself : IVec S2048x2048 1 :=
  cmpi .eq (addi (iotaInDim S2048x2048 32 0) (broadcastInDim S2048x2048 ![] bcast_S_S2048x2048 (constantI S_ 32 0#32)))
    (iotaInDim S2048x2048 32 1)

/-- The similarities with a row's own left out. -/
def others (s : Square F) : Square F :=
  select itself (broadcastInDim S2048x2048 ![] bcast_S_S2048x2048 (id (constant S_ .f32 0xFF800000#32))) s

/-- The hundred greatest of each row, and where they are. -/
def near (s : Square F) : Near F × IVec S2048x100 32 :=
  Host.topK S2048x100 1 (FloatOps.cmpfTotal .gt) (others s) sliceFits_S2048x2048_S2048x100

/-- The labels at the places `ix`. -/
def labelsAt (t : Labels F) (ix : IVec S2048x100 32) : IVec S2048x100 32 :=
  Host.gather gather_S2048_S2048x100x1_S2048x100_n_0_n_n_0_2_1 t
    (broadcastInDim S2048x100x1 ![0, 1] bcast_S2048x100_S2048x100x1_0_1
      (select (cmpi .slt ix (broadcastInDim S2048x100 ![] bcast_S_S2048x100 (constantI S_ 32 0#32)))
        (addi ix (broadcastInDim S2048x100 ![] bcast_S_S2048x100 (constantI S_ 32 2048#32))) ix))

/-- Forty times the hundred greatest. -/
def logits (v : Near F) : Near F :=
  mulf (broadcastInDim S2048x100 ![] bcast_S_S2048x100 (constant S_ .f32 0x42200000#32)) v

/-- The weights of the hundred greatest. -/
def weights (l : Near F) : Near F :=
  Host.exp (subf l (broadcastInDim S2048x100 ![0, 1] bcast_S2048x1_S2048x100_0_1
    (broadcastInDim S2048x1 ![0] bcast_S2048_S2048x1_0
      (Host.reduce FloatOps.maximumf l (constant S_ .f32 0xFF800000#32) reducesTo_S2048x100_S2048_d1 h_S_))))

/-- The rows' losses, from the weights and the labels of the hundred greatest. -/
def losses (w : Near F) (l : IVec S2048x100 32) (t : Labels F) : (⟨S2048, .f32⟩ : BufTy).Contents (Elt F) :=
  Host.negf (Host.log (Host.divf
    (addf (Host.reduceAdd (select (cmpi .eq l (broadcastInDim S2048x100 ![0, 1] bcast_S2048x1_S2048x100_0_1
        (broadcastInDim S2048x1 ![0] bcast_S2048_S2048x1_0 t))) w
        (broadcastInDim S2048x100 ![] bcast_S_S2048x100 (id (constant S_ .f32 0x00000000#32))))
      (constant S_ .f32 0x00000000#32) reducesTo_S2048x100_S2048_d1 h_S_)
      (broadcastInDim S2048 ![] bcast_S_S2048 (constant S_ .f32 0x322BCC77#32)))
    (addf (Host.reduceAdd w (constant S_ .f32 0x00000000#32) reducesTo_S2048x100_S2048_d1 h_S_)
      (broadcastInDim S2048 ![] bcast_S_S2048 (constant S_ .f32 0x322BCC77#32)))))

/-- The rows whose nearest row has their label, counted, over the rows. -/
def precision (l : IVec S2048x100 32) (t : Labels F) : One F :=
  Host.divf (Host.reduceAdd (uitofp .f32 (cmpi .eq (shapeCast S2048 (extractStridedSlice S2048x1 ![0, 0] l slices_S2048x100_S2048x1_0_0)
      shapeCasts_S2048x1_S2048) t)) (constant S_ .f32 0x00000000#32) reducesTo_S2048_S_d0 h_S_) (constant S_ .f32 0x45000000#32)

/-- The pairs of different rows with one label. -/
def positive (t : Labels F) : IVec S2048x2048 1 :=
  andi (cmpi .eq (broadcastInDim S2048x2048 ![0, 1] bcast_S2048x1_S2048x2048_0_1 (broadcastInDim S2048x1 ![0] bcast_S2048_S2048x1_0 t))
    (broadcastInDim S2048x2048 ![0, 1] bcast_S1x2048_S2048x2048_0_1 (broadcastInDim S1x2048 ![1] bcast_S2048_S1x2048_1 t))) (noti itself)

/-- The pairs of rows with different labels. -/
def negative (t : Labels F) : IVec S2048x2048 1 :=
  cmpi .ne (broadcastInDim S2048x2048 ![0, 1] bcast_S2048x1_S2048x2048_0_1 (broadcastInDim S2048x1 ![0] bcast_S2048_S2048x1_0 t))
    (broadcastInDim S2048x2048 ![0, 1] bcast_S1x2048_S2048x2048_0_1 (broadcastInDim S1x2048 ![1] bcast_S2048_S1x2048_1 t))

/-- The mean similarity over the pairs of a mask. -/
def meanOver (mask : IVec S2048x2048 1) (s : Square F) : One F :=
  Host.divf (Host.reduceAdd (select mask s (broadcastInDim S2048x2048 ![] bcast_S_S2048x2048 (id (constant S_ .f32 0x00000000#32))))
      (constant S_ .f32 0x00000000#32) reducesTo_S2048x2048_S_d0_1 h_S_)
    (sitofp .f32 (maxsi (Host.reduce IntOp.addi (extui 32 mask natLt_1_32) (constantI S_ 32 0#32) reducesTo_S2048x2048_S_d0_1 h_S_)
      (constantI S_ 32 1#32)))

/-- The mean over the four branches of a number each. -/
def meanOfFour (a b c d : One F) : One F :=
  Host.divf (Host.reduceAdd (concatenate S4 0
    [⟨S1, (broadcastInDim S1 ![] bcast_S_S1 a : (⟨S1, .f32⟩ : BufTy).Contents (Elt F))⟩,
     ⟨S1, (broadcastInDim S1 ![] bcast_S_S1 b : (⟨S1, .f32⟩ : BufTy).Contents (Elt F))⟩,
     ⟨S1, (broadcastInDim S1 ![] bcast_S_S1 c : (⟨S1, .f32⟩ : BufTy).Contents (Elt F))⟩,
     ⟨S1, (broadcastInDim S1 ![] bcast_S_S1 d : (⟨S1, .f32⟩ : BufTy).Contents (Elt F))⟩] concatenates_S1_S1_S1_S1_S4_d0)
    (constant S_ .f32 0x00000000#32) reducesTo_S4_S_d0 h_S_) (constant S_ .f32 0x40800000#32)

/-- The mean over the rows of the four branches of a number per row. -/
def meanOfRows (a b c d : (⟨S2048, .f32⟩ : BufTy).Contents (Elt F)) : One F :=
  Host.divf (Host.reduceAdd (concatenate S8192 0 [⟨S2048, a⟩, ⟨S2048, b⟩, ⟨S2048, c⟩, ⟨S2048, d⟩]
    concatenates_S2048_S2048_S2048_S2048_S8192_d0) (constant S_ .f32 0x00000000#32) reducesTo_S8192_S_d0 h_S_)
    (constant S_ .f32 0x46000000#32)

/-- A branch's similarities, from the inputs. -/
def sims (ix : IVec S128 32) (x : Inputs F) : Square F := similar (normalize (columns ix x))

/-- A branch's losses, from its similarities. -/
def lossOf (s : Square F) (t : Labels F) : (⟨S2048, .f32⟩ : BufTy).Contents (Elt F) :=
  losses (weights (logits (near s).1)) (labelsAt t (near s).2) t

def table0 : IVec S128 32 := fun i => lit0 (S128.rowMajor i)
def table1 : IVec S128 32 := fun i => lit1 (S128.rowMajor i)
def table2 : IVec S128 32 := fun i => lit2 (S128.rowMajor i)
def table3 : IVec S128 32 := fun i => lit3 (S128.rowMajor i)

/-- The reference's four results. -/
def res0 (x : Inputs F) (t : Labels F) : One F :=
  meanOfRows (lossOf (sims table0 x) t) (lossOf (sims table1 x) t) (lossOf (sims table2 x) t) (lossOf (sims table3 x) t)
def res1 (x : Inputs F) (t : Labels F) : One F :=
  meanOfFour (precision (labelsAt t (near (sims table0 x)).2) t) (precision (labelsAt t (near (sims table1 x)).2) t)
    (precision (labelsAt t (near (sims table2 x)).2) t) (precision (labelsAt t (near (sims table3 x)).2) t)
def res2 (x : Inputs F) (t : Labels F) : One F :=
  meanOfFour (meanOver (positive t) (sims table0 x)) (meanOver (positive t) (sims table1 x))
    (meanOver (positive t) (sims table2 x)) (meanOver (positive t) (sims table3 x))
def res3 (x : Inputs F) (t : Labels F) : One F :=
  meanOfFour (meanOver (negative t) (sims table0 x)) (meanOver (negative t) (sims table1 x))
    (meanOver (negative t) (sims table2 x)) (meanOver (negative t) (sims table3 x))

set_option maxRecDepth 8192 in
/-- The reference ends with the four results and leaves its arguments. -/
theorem run (m : (ℓ : Loc nD τ sig) → Buf (Elt F) ℓ) (ρ : Dev nD → PrngReg) :
    θ_run defs (onTc (main (F := F))) ⟨m, fun _ => 0, ρ⟩ fun r => ∀ c : Dev nD,
      r.2.mem ((c : Thread nD τ).loc main_v302) = res0 (m ((c : Thread nD τ).loc main_arg0)) (m ((c : Thread nD τ).loc main_arg1))
      ∧ r.2.mem ((c : Thread nD τ).loc main_v309) = res1 (m ((c : Thread nD τ).loc main_arg0)) (m ((c : Thread nD τ).loc main_arg1))
      ∧ r.2.mem ((c : Thread nD τ).loc main_v316) = res2 (m ((c : Thread nD τ).loc main_arg0)) (m ((c : Thread nD τ).loc main_arg1))
      ∧ r.2.mem ((c : Thread nD τ).loc main_v323) = res3 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (Cert.ReferenceIdeal.Value.run m ρ).mono fun r h c => h c

end Cert.ReferenceIdeal.Branch

end
-- ==== Proof.Conditions.lean ====
/- What the two preconditions say, in the words of the reference's branches. -/
module

public import proofs.«01_k».proof.Proof.Reference
public import proofs.«01_k».proof.Pre_regular
public import proofs.«01_k».proof.Pre_separated

@[expose] public section

noncomputable section

namespace Cert.ReferenceIdeal.Branch

open Idealize.ShloMosaic Idealize.ShloMosaic.TcCoe
open Cert.ReferenceIdeal Cert.ReferenceIdeal.Gen

variable {F : FTy → Type} [FloatOps F]

/-- The labels that are class numbers. -/
def labelled (t : Labels F) : IVec S2048 1 :=
  andi (cmpi .sge t (broadcastInDim S2048 ![] bcast_S_S2048 (constantI S_ 32 0#32)))
    (cmpi .slt t (broadcastInDim S2048 ![] bcast_S_S2048 (constantI S_ 32 100#32)))

/-- The rows' norms. -/
def norms (g : Rows F) : (⟨S2048x1, .f32⟩ : BufTy).Contents (Elt F) :=
  Host.sqrt (broadcastInDim S2048x1 ![0] bcast_S2048_S2048x1_0
    (Host.reduceAdd (mulf g g) (constant S_ .f32 0x00000000#32) reducesTo_S2048x128_S2048_d1 h_S_))

/-- The rows whose norms are positive. -/
def nonzero (h : S_.BroadcastsInDim S2048x1 (![] : Fin 0 → Fin S2048x1.rank)) (g : Rows F) : IVec S2048x1 1 :=
  cmpf .ogt (norms g) (broadcastInDim S2048x1 ![] h (constant S_ .f32 0x00000000#32))

/-- The rows with exactly a hundred similarities above the hundredth, less nine parts in 32768. -/
def gapped (h : S_.BroadcastsInDim S2048x1 (![] : Fin 0 → Fin S2048x1.rank)) (hs : S2048x100.Slices ![0, 99] S2048x1)
    (hb : S2048x1.BroadcastsInDim S2048x2048 (![0, 1] : Fin 2 → Fin S2048x2048.rank))
    (hr : S2048x2048.ReducesTo {1} S2048) (s : Square F) : IVec S2048 1 :=
  cmpf (F := F) (φ := .f32) .oeq (Host.reduceAdd (id (select (cmpf (F := F) (φ := .f32) .ogt (others s) (broadcastInDim S2048x2048 ![0, 1] hb
      (subf (F := F) (φ := .f32) (extractStridedSlice S2048x1 ![0, 99] (near s).1 hs)
        (broadcastInDim S2048x1 ![] h (constant S_ .f32 0x39900000#32)))))
      (broadcastInDim S2048x2048 ![] bcast_S_S2048x2048 (constant (F := F) S_ .f32 0x3F800000#32))
      (broadcastInDim S2048x2048 ![] bcast_S_S2048x2048 (constant (F := F) S_ .f32 0x00000000#32))))
    (constant S_ .f32 0x00000000#32) hr h_S_)
    (broadcastInDim S2048 ![] bcast_S_S2048 (constant S_ .f32 0x42C80000#32))

/-- The pairs of rows where the second is not a nearest row of the first, or has the first's label exactly when the
    first's nearest row has. -/
def agreed (hb : S2048x1.BroadcastsInDim S2048x2048 (![0, 1] : Fin 2 → Fin S2048x2048.rank)) (s : Square F) (t : Labels F) :
    IVec S2048x2048 1 :=
  ori (cmpf .olt (others s) (broadcastInDim S2048x2048 ![0, 1] hb
      (extractStridedSlice S2048x1 ![0, 0] (near s).1 slices_S2048x100_S2048x1_0_0)))
    (cmpi .eq (cmpi .eq
        (broadcastInDim S2048x2048 ![0, 1] bcast_S2048x1_S2048x2048_0_1 (broadcastInDim S2048x1 ![0] bcast_S2048_S2048x1_0 t))
        (broadcastInDim S2048x2048 ![0, 1] bcast_S1x2048_S2048x2048_0_1 (broadcastInDim S1x2048 ![1] bcast_S2048_S1x2048_1 t)))
      (broadcastInDim S2048x2048 ![0, 1] bcast_S2048x1_S2048x2048_0_1 (broadcastInDim S2048x1 ![0] bcast_S2048_S2048x1_0
        (cmpi .eq (shapeCast S2048 (extractStridedSlice S2048x1 ![0, 0] (labelsAt (F := F) t (near s).2) slices_S2048x100_S2048x1_0_0)
          shapeCasts_S2048x1_S2048) t))))

theorem regular_table0 : Cert.Pre_regular.lit0 = lit0 := funext (by decide)
theorem regular_table1 : Cert.Pre_regular.lit1 = lit1 := funext (by decide)
theorem regular_table2 : Cert.Pre_regular.lit2 = lit2 := funext (by decide)
theorem regular_table3 : Cert.Pre_regular.lit3 = lit3 := funext (by decide)
theorem separated_table0 : Cert.Pre_separated.lit0 = lit0 := funext (by decide)
theorem separated_table1 : Cert.Pre_separated.lit1 = lit1 := funext (by decide)
theorem separated_table2 : Cert.Pre_separated.lit2 = lit2 := funext (by decide)
theorem separated_table3 : Cert.Pre_separated.lit3 = lit3 := funext (by decide)

set_option maxRecDepth 8192 in
/-- The first precondition: class numbers, and no row of a branch zero. -/
theorem regular_eq [Cert.Pre_regular.Facts] (x : Inputs F) (t : Labels F) : Cert.Pre_regular.fn (F := F) x t =
    (labelled (F := F) t, nonzero Cert.Pre_regular.Facts.bcast_S_S2048x1 (columns table0 x),
      nonzero Cert.Pre_regular.Facts.bcast_S_S2048x1 (columns table1 x), nonzero Cert.Pre_regular.Facts.bcast_S_S2048x1 (columns table2 x),
      nonzero Cert.Pre_regular.Facts.bcast_S_S2048x1 (columns table3 x)) := by
  unfold table0 table1 table2 table3
  rw [← regular_table0, ← regular_table1, ← regular_table2, ← regular_table3]
  rfl

set_option maxRecDepth 8192 in
set_option maxHeartbeats 1000000 in
/-- The second: the first, and every row's hundred nearest apart from the rest, and its nearest row's label not in
    question. -/
theorem separated_eq [Cert.Pre_separated.Facts] (x : Inputs F) (t : Labels F) : Cert.Pre_separated.fn (F := F) x t =
    (labelled (F := F) t, nonzero Cert.Pre_separated.Facts.bcast_S_S2048x1 (columns table0 x),
      nonzero Cert.Pre_separated.Facts.bcast_S_S2048x1 (columns table1 x), nonzero Cert.Pre_separated.Facts.bcast_S_S2048x1 (columns table2 x),
      nonzero Cert.Pre_separated.Facts.bcast_S_S2048x1 (columns table3 x),
      gapped Cert.Pre_separated.Facts.bcast_S_S2048x1 Cert.Pre_separated.Facts.slices_S2048x100_S2048x1_0_99
        Cert.Pre_separated.Facts.bcast_S2048x1_S2048x2048_0_1 Cert.Pre_separated.Facts.reducesTo_S2048x2048_S2048_d1 (sims table0 x),
      agreed Cert.Pre_separated.Facts.bcast_S2048x1_S2048x2048_0_1 (sims table0 x) t,
      gapped Cert.Pre_separated.Facts.bcast_S_S2048x1 Cert.Pre_separated.Facts.slices_S2048x100_S2048x1_0_99
        Cert.Pre_separated.Facts.bcast_S2048x1_S2048x2048_0_1 Cert.Pre_separated.Facts.reducesTo_S2048x2048_S2048_d1 (sims table1 x),
      agreed Cert.Pre_separated.Facts.bcast_S2048x1_S2048x2048_0_1 (sims table1 x) t,
      gapped Cert.Pre_separated.Facts.bcast_S_S2048x1 Cert.Pre_separated.Facts.slices_S2048x100_S2048x1_0_99
        Cert.Pre_separated.Facts.bcast_S2048x1_S2048x2048_0_1 Cert.Pre_separated.Facts.reducesTo_S2048x2048_S2048_d1 (sims table2 x),
      agreed Cert.Pre_separated.Facts.bcast_S2048x1_S2048x2048_0_1 (sims table2 x) t,
      gapped Cert.Pre_separated.Facts.bcast_S_S2048x1 Cert.Pre_separated.Facts.slices_S2048x100_S2048x1_0_99
        Cert.Pre_separated.Facts.bcast_S2048x1_S2048x2048_0_1 Cert.Pre_separated.Facts.reducesTo_S2048x2048_S2048_d1 (sims table3 x),
      agreed Cert.Pre_separated.Facts.bcast_S2048x1_S2048x2048_0_1 (sims table3 x) t) := by
  unfold table0 table1 table2 table3
  rw [← separated_table0, ← separated_table1, ← separated_table2, ← separated_table3]
  rfl

end Cert.ReferenceIdeal.Branch

end
-- ==== Proof.Decoded.lean ====
/- The preconditions in real numbers: labels below a hundred, the branches' rows real and of length at most one, and
   their similarities the rows' inner products. -/
module

public import proofs.«01_k».proof.Proof.Conditions
public import proofs.«01_k».proof.Proof.Rows
public import proofs.«01_k».proof.Proof.Numbers
public import Idealize.ShloMosaic.Lib.Pointwise

@[expose] public section

noncomputable section

namespace Cert.ReferenceIdeal.Branch

open Idealize.ShloMosaic Idealize.ShloMosaic.TcCoe
open Cert.ReferenceIdeal Cert.ReferenceIdeal.Gen Cert.Knn

set_option maxRecDepth 16384

theorem ofBool_eq_one {b : Bool} (h : BitVec.ofBool b = 1#1) : b = true := by
  cases b
  · exact absurd h (by decide)
  · rfl

/-- A label that passes the test is a class number. -/
theorem label_lt (t : Labels Ideal) (h : labelled (F := Ideal) t = fun _ => 1#1) (i : Fin 2048) : (t (ix1 i)).toNat < 100 := by
  have h1 := congrFun h (ix1 i)
  pointwise [labelled] at h1
  generalize t (ix1 i) = a at h1
  have h2 : (BitVec.sle 0#32 a && BitVec.slt a 100#32) = true := by
    revert h1
    simp only [IntOp.andi, IntOp.cmpi]
    cases BitVec.sle 0#32 a <;> cases BitVec.slt a 100#32 <;> simp
  rw [Bool.and_eq_true] at h2
  obtain ⟨h3, h4⟩ := h2
  rw [BitVec.sle_iff_toInt_le] at h3
  rw [BitVec.slt_iff_toInt_lt] at h4
  have h5 : (0#32 : BitVec 32).toInt = 0 := by decide
  have h6 : (100#32 : BitVec 32).toInt = 100 := by decide
  have h7 := BitVec.toInt_eq_toNat_cond a
  have h8 := a.isLt
  split at h7 <;> omega

/-- A square is not negative. -/
theorem square_nonneg (a : EReal) : 0 ≤ a * a := by
  induction a using EReal.rec with
  | bot => simp
  | coe r => rw [← EReal.coe_mul]; exact EReal.coe_nonneg.mpr (mul_self_nonneg r)
  | top => simp

/-- A row over its norm is real, and of length at most one: of length one, or zero where an entry is infinite. -/
theorem short_row (a : Fin 128 → EReal) (h : 0 < Ideal.sqrt (∑ d, a d * a d)) :
    ∃ r : Fin 128 → ℝ, ∑ d, r d * r d ≤ 1 ∧ ∀ d, Ideal.div (a d) (Ideal.sqrt (∑ d, a d * a d)) = ((r d : ℝ) : EReal) := by
  by_cases hinf : ∃ d, a d * a d = ⊤
  · obtain ⟨d, hd⟩ := hinf
    have hs : ∑ d, a d * a d = ⊤ :=
      top_le_iff.mp (hd ▸ Finset.single_le_sum (f := fun d => a d * a d) (fun d _ => square_nonneg (a d)) (Finset.mem_univ d))
    refine ⟨fun _ => 0, by simp, fun d => ?_⟩
    rw [hs, Ideal.sqrt_top]
    unfold Ideal.div
    rw [if_neg EReal.top_ne_zero, EReal.inv_top, mul_zero, EReal.coe_zero]
  · have hr : ∀ d, ∃ r : ℝ, a d = (r : EReal) := by
      intro d
      have hd : ¬ a d * a d = ⊤ := fun e => hinf ⟨d, e⟩
      generalize a d = z at hd
      induction z using EReal.rec with
      | bot => exact absurd (by simp) hd
      | coe r => exact ⟨r, rfl⟩
      | top => exact absurd (by simp) hd
    choose r hr using hr
    have hn : (0 : ℝ) ≤ ∑ d, r d * r d := Finset.sum_nonneg fun d _ => mul_self_nonneg _
    have hs : Ideal.sqrt (∑ d, a d * a d) = ((Real.sqrt (∑ d, r d * r d) : ℝ) : EReal) := by
      have : (∑ d, a d * a d) = ((∑ d, r d * r d : ℝ) : EReal) := by
        rw [coe_sum]
        exact Finset.sum_congr rfl fun d _ => by rw [hr, EReal.coe_mul]
      rw [this, Ideal.sqrt_coe, if_neg (not_lt.mpr hn)]
    rw [hs] at h ⊢
    have hp : 0 < Real.sqrt (∑ d, r d * r d) := EReal.coe_pos.mp h
    refine ⟨fun d => r d / Real.sqrt (∑ d, r d * r d), le_of_eq ?_, fun d => by rw [hr, div_real _ (ne_of_gt hp)]⟩
    have h2 : ∀ d, r d / Real.sqrt (∑ d, r d * r d) * (r d / Real.sqrt (∑ d, r d * r d)) = (r d * r d) / (∑ d, r d * r d) := by
      intro d
      rw [div_mul_div_comm, Real.mul_self_sqrt hn]
    show ∑ d, _ = _
    rw [Finset.sum_congr rfl fun d _ => h2 d, ← Finset.sum_div]
    exact div_self (fun h3 => by rw [h3, Real.sqrt_zero] at hp; exact lt_irrefl _ hp)

/-- A branch's rows over their norms, none of which is zero, are real and of length at most one. -/
theorem short_rows (hb) (g : Rows Ideal) (h : nonzero hb g = fun _ => 1#1) :
    ∃ X, ShortRows X ∧ ∀ k d, normalize g (ix2 k d) = ((X k d : ℝ) : EReal) := by
  have hp : ∀ i, 0 < Ideal.sqrt (∑ d, g (ix2 i d) * g (ix2 i d)) := by
    intro i
    have h1 := congrFun h (ix2 i 0)
    pointwise [nonzero, norms] at h1
    exact of_decide_eq_true (ofBool_eq_one h1)
  choose X hX using fun i => short_row (fun d => g (ix2 i d)) (hp i)
  refine ⟨X, fun i => (hX i).1, fun k d => ?_⟩
  pointwise [normalize]
  exact (hX k).2 d

/-- The similarities are the rows' inner products. -/
theorem similar_dot (n : Rows Ideal) (X : Fin 2048 → Fin 128 → ℝ) (h : ∀ k d, n (ix2 k d) = (X k d : EReal)) (i k : Fin 2048) :
    similar n (ix2 i k) = ((dot X i k : ℝ) : EReal) := by
  pointwise [similar]
  unfold dot
  rw [coe_sum]
  exact Finset.sum_congr rfl fun d _ => by rw [h, h, EReal.coe_mul]

/-- A row index and its number. -/
theorem place_eq (i k : Fin 2048) : BitVec.ofNat 32 i.val = BitVec.ofNat 32 k.val ↔ i = k := by
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

theorem itself_apply (i k : Fin 2048) : itself (ix2 i k) = if k = i then 1#1 else 0#1 := by
  pointwise [itself]
  rw [show IntOp.addi (BitVec.ofNat 32 i.val) 0#32 = BitVec.ofNat 32 i.val from BitVec.add_zero _]
  by_cases h : k = i
  · rw [if_pos h, h]; simp [IntOp.cmpi]
  · rw [if_neg h]
    have : ¬ BitVec.ofNat 32 i.val = BitVec.ofNat 32 k.val := fun e => h ((place_eq i k).mp e).symm
    simp only [IntOp.cmpi]
    rw [beq_eq_false_iff_ne.mpr this]
    rfl

/-- The similarities with a row's own at minus infinity. -/
theorem others_apply (s : Square Ideal) (i k : Fin 2048) : others s (ix2 i k) = if k = i then ⊥ else s (ix2 i k) := by
  have h : others s (ix2 i k) = Scalar.select (itself (ix2 i k)) (Ideal.ofBits .f32 0xFF800000#32) (s (ix2 i k)) := rfl
  rw [h, itself_apply, num_bot]
  by_cases h : k = i
  · rw [if_pos h, if_pos h]; rfl
  · rw [if_neg h, if_neg h]; rfl

end Cert.ReferenceIdeal.Branch

end
-- ==== Proof.Counts.lean ====
/- Counting pairs of rows: a count made of bits, and the reference's mean over the pairs of a mask in real numbers. -/
module

public import proofs.«01_k».proof.Proof.Decoded
public import proofs.«01_k».proof.Proof.PairCounts

@[expose] public section

noncomputable section

namespace Cert.ReferenceIdeal.Branch

open Idealize.ShloMosaic Idealize.ShloMosaic.TcCoe
open Cert.ReferenceIdeal Cert.ReferenceIdeal.Gen Cert.Knn

set_option maxRecDepth 16384

/-- Bits added one after another, as words, give the word of their count. -/
theorem fold_bits {ι : Type*} (s : Finset ι) (P : ι → Prop) [DecidablePred P] (f : ι → BitVec 1)
    (hf : ∀ x, f x = if P x then 1#1 else 0#1) :
    Finset.fold IntOp.addi 0#32 (fun x => BitVec.setWidth 32 (f x)) s = BitVec.ofNat 32 (s.filter P).card := by
  classical
  induction s using Finset.induction_on with
  | empty => rfl
  | insert a s ha ih =>
    rw [Finset.fold_insert ha, ih, hf a, Finset.filter_insert]
    by_cases h : P a
    · rw [if_pos h, if_pos h, Finset.card_insert_of_notMem (fun hm => ha (Finset.mem_of_mem_filter a hm))]
      rw [show BitVec.setWidth 32 (1#1) = BitVec.ofNat 32 1 from rfl, Nat.add_comm, BitVec.ofNat_add]
      rfl
    · rw [if_neg h, if_neg h]
      exact BitVec.zero_add _

/-- The greater of a small count and one, as words, is that of the numbers. -/
theorem count_max (n : ℕ) (h : n < 2147483648) :
    ((IntOp.maxsi (BitVec.ofNat 32 n) 1#32).toInt : ℝ) = max (n : ℝ) 1 := by
  have h1 : (BitVec.ofNat 32 n).toInt = n := by
    rw [BitVec.toInt_eq_toNat_of_lt] <;> rw [BitVec.toNat_ofNat, Nat.mod_eq_of_lt (by omega)]
    omega
  have h2 : (1#32 : BitVec 32).toInt = 1 := by decide
  unfold IntOp.maxsi
  split
  · next h3 =>
    first
      | rw [BitVec.slt_iff_toInt_lt] at h3
      | rw [BitVec.sle_iff_toInt_le] at h3
    rw [h1, h2] at h3
    first
      | (rw [h1, Int.cast_natCast, max_eq_left]; exact_mod_cast (by omega : 1 ≤ n))
      | (rw [h2, max_eq_right] <;> [simp; exact_mod_cast (by omega : n ≤ 1)])
  · next h3 =>
    first
      | rw [BitVec.slt_iff_toInt_lt] at h3
      | rw [BitVec.sle_iff_toInt_le] at h3
    rw [h1, h2] at h3
    first
      | (rw [h1, Int.cast_natCast, max_eq_left]; exact_mod_cast (by omega : 1 ≤ n))
      | (rw [h2, max_eq_right] <;> [simp; exact_mod_cast (by omega : n ≤ 1)])

/-- The reference's mean over a mask: the sum over its pairs, over their number or one. -/
theorem meanOver_real (mask : IVec S2048x2048 1) (P : Fin 2048 → Fin 2048 → Prop) [∀ i k, Decidable (P i k)]
    (hm : ∀ i k, mask (ix2 i k) = if P i k then 1#1 else 0#1) (s : Square Ideal) (f : Fin 2048 → Fin 2048 → ℝ)
    (hs : ∀ i k, s (ix2 i k) = ((f i k : ℝ) : EReal)) (j) :
    meanOver mask s j = (((∑ i, ∑ k, if P i k then f i k else 0) / max (pairs P : ℝ) 1 : ℝ) : EReal) := by
  pointwise [meanOver]
  rw [fold_bits Finset.univ (fun x : Fin 2048 × Fin 2048 => P x.1 x.2) (fun x => mask (ix2 x.1 x.2)) (fun x => hm _ _)]
  have h1 : (FloatOps.sitofp (F := Ideal) .f32 (IntOp.maxsi (BitVec.ofNat 32 (pairs P)) 1#32) : EReal) = ((max (pairs P : ℝ) 1 : ℝ) : EReal) := by
    rw [← count_max (pairs P) (lt_of_le_of_lt (pairs_le P) (by norm_num))]
    rfl
  have h2 : ∀ i k, Scalar.select (mask (ix2 i k)) (s (ix2 i k)) (id (constant (F := Ideal) S_ .f32 0#32) ix0)
      = ((if P i k then f i k else 0 : ℝ) : EReal) := by
    intro i k
    rw [hm, hs]
    have h0 : (id (constant (F := Ideal) S_ .f32 0#32) ix0 : EReal) = ((0 : ℝ) : EReal) := by
      rw [EReal.coe_zero]; exact Ideal.ofBits_zero .f32
    rw [h0]
    by_cases h : P i k
    · rw [if_pos h, if_pos h]; rfl
    · rw [if_neg h, if_neg h]; rfl
  refine (congrArg₂ Ideal.div ?_ h1).trans (div_real _ (ne_of_gt (lt_of_lt_of_le one_pos (le_max_right _ _))))
  rw [coe_sum]
  refine Finset.sum_congr rfl fun i _ => ?_
  rw [coe_sum]
  exact Finset.sum_congr rfl fun k _ => h2 i k

/-- The pairs with different labels, -/
theorem negative_apply (t : Labels Ideal) (i k : Fin 2048) :
    negative (F := Ideal) t (ix2 i k) = if ¬ t (ix1 k) = t (ix1 i) then 1#1 else 0#1 := by
  pointwise [negative]
  by_cases h : t (ix1 k) = t (ix1 i)
  · rw [if_neg (not_not.mpr h), h]; simp [IntOp.cmpi]
  · rw [if_pos h]
    simp only [IntOp.cmpi]
    rw [bne_iff_ne.mpr (Ne.symm h)]
    rfl

/-- and of different rows with the same label. -/
theorem positive_apply (t : Labels Ideal) (i k : Fin 2048) :
    positive (F := Ideal) t (ix2 i k) = if t (ix1 k) = t (ix1 i) ∧ k ≠ i then 1#1 else 0#1 := by
  have h0 : positive (F := Ideal) t (ix2 i k)
      = IntOp.andi (IntOp.cmpi .eq (t (ix1 i)) (t (ix1 k))) (noti itself (ix2 i k)) := by
    unfold positive
    show IntOp.andi _ _ = _
    refine congrArg (IntOp.andi · _) ?_
    pointwise []
  have h1 : noti itself (ix2 i k) = if k ≠ i then 1#1 else 0#1 := by
    have : noti itself (ix2 i k) = ~~~ (itself (ix2 i k)) := rfl
    rw [this, itself_apply]
    by_cases h : k = i
    · rw [if_pos h, if_neg (not_not.mpr h)]; decide
    · rw [if_neg h, if_pos h]; decide
  rw [h0, h1]
  by_cases h : t (ix1 k) = t (ix1 i)
  · by_cases h' : k = i
    · have h2 : ¬ (t (ix1 k) = t (ix1 i) ∧ k ≠ i) := fun e => e.2 h'
      rw [if_neg (not_not.mpr h'), if_neg h2, h]; simp [IntOp.cmpi, IntOp.andi]
    · rw [if_pos h', if_pos ⟨h, h'⟩, h]; simp [IntOp.cmpi, IntOp.andi]
  · have h2 : ¬ (t (ix1 k) = t (ix1 i) ∧ k ≠ i) := fun e => h e.1
    rw [if_neg h2]
    simp only [IntOp.cmpi]
    rw [beq_eq_false_iff_ne.mpr (Ne.symm h)]
    by_cases h' : k = i
    · rw [if_neg (not_not.mpr h')]; decide
    · rw [if_pos h']; decide

/-- A mean over the four branches. -/
theorem meanOfFour_real (a b c d : One Ideal) (p : Fin 4 → ℝ) (ha : ∀ j, a j = ((p 0 : ℝ) : EReal)) (hb : ∀ j, b j = ((p 1 : ℝ) : EReal))
    (hc : ∀ j, c j = ((p 2 : ℝ) : EReal)) (hd : ∀ j, d j = ((p 3 : ℝ) : EReal)) (j) :
    meanOfFour a b c d j = (((∑ b, p b) / 4 : ℝ) : EReal) := by
  pointwise [meanOfFour]
  rw [num_4, ← div_real _ (by norm_num : (4 : ℝ) ≠ 0)]
  refine congrArg (Ideal.div · _) ?_
  rw [coe_sum]
  refine Finset.sum_congr rfl fun x _ => ?_
  match x with
  | ⟨0, _⟩ => exact ha _
  | ⟨1, _⟩ => exact hb _
  | ⟨2, _⟩ => exact hc _
  | ⟨3, _⟩ => exact hd _

end Cert.ReferenceIdeal.Branch

end
-- ==== Proof.Distances.lean ====
/- The kernel and the reference hold the same rows, and agree on the mean similarities of the pairs with the same label and
   of the pairs with different labels. -/
module

public import proofs.«01_k».proof.Proof.KernelTotals
public import proofs.«01_k».proof.Proof.KernelResults
public import proofs.«01_k».proof.Proof.Counts

@[expose] public section

noncomputable section

namespace Cert.Both

open Idealize.ShloMosaic Idealize.ShloMosaic.TcCoe Idealize.SL.Sem
open Cert.Knn Cert.ReferenceIdeal.Branch

set_option maxRecDepth 16384

/-- The reference's table of a branch's columns. -/
def table (b : Fin 4) : IVec Cert.ReferenceIdeal.S128 32 :=
  match b with
  | ⟨0, _⟩ => table0
  | ⟨1, _⟩ => table1
  | ⟨2, _⟩ => table2
  | ⟨3, _⟩ => table3

theorem lit0_eq : Cert.KernelIdeal.lit0 = Cert.ReferenceIdeal.lit0 := funext (by decide)
theorem lit1_eq : Cert.KernelIdeal.lit1 = Cert.ReferenceIdeal.lit1 := funext (by decide)
theorem lit2_eq : Cert.KernelIdeal.lit2 = Cert.ReferenceIdeal.lit2 := funext (by decide)
theorem lit3_eq : Cert.KernelIdeal.lit3 = Cert.ReferenceIdeal.lit3 := funext (by decide)

theorem lit0_nonneg : ∀ n, IntOp.cmpi .slt (Cert.KernelIdeal.lit0 n) 0#32 = 0#1 := by decide
theorem lit1_nonneg : ∀ n, IntOp.cmpi .slt (Cert.KernelIdeal.lit1 n) 0#32 = 0#1 := by decide
theorem lit2_nonneg : ∀ n, IntOp.cmpi .slt (Cert.KernelIdeal.lit2 n) 0#32 = 0#1 := by decide
theorem lit3_nonneg : ∀ n, IntOp.cmpi .slt (Cert.KernelIdeal.lit3 n) 0#32 = 0#1 := by decide

/-- The kernel tests its column numbers for being negative and the reference doesn't; none is. -/
theorem columns_eq (ix : IVec Cert.ReferenceIdeal.S128 32) (h : ∀ i, IntOp.cmpi .slt (ix i) 0#32 = 0#1) (x : Inputs Ideal) :
    Cert.KernelIdeal.Block.columns (F := Ideal) ix x = columns ix x := by
  have hs : select (cmpi .slt ix (broadcastInDim Cert.KernelIdeal.S128 ![] Cert.KernelIdeal.Gen.bcast_S_S128 (constantI Cert.KernelIdeal.S_ 32 0#32)))
      (addi ix (broadcastInDim Cert.KernelIdeal.S128 ![] Cert.KernelIdeal.Gen.bcast_S_S128 (constantI Cert.KernelIdeal.S_ 32 512#32))) ix
      = select (constantI Cert.KernelIdeal.S128 1 0#1)
      (addi ix (broadcastInDim Cert.KernelIdeal.S128 ![] Cert.KernelIdeal.Gen.bcast_S_S128 (constantI Cert.KernelIdeal.S_ 32 512#32))) ix := by
    funext i
    exact congrArg (fun c => Scalar.select c _ (ix i)) (h i)
  unfold Cert.KernelIdeal.Block.columns
  rw [hs]
  rfl

/-- The rows of a branch in the kernel are the reference's. -/
theorem feats_eq (x : Inputs Ideal) (b : Fin 4) :
    Cert.KernelIdeal.Block.feats x b = normalize (columns (table b) x) := by
  have h : ∀ ix : IVec Cert.ReferenceIdeal.S128 32, (∀ i, IntOp.cmpi .slt (ix i) 0#32 = 0#1) →
      Cert.KernelIdeal.Block.branch (F := Ideal) ix x = normalize (columns ix x) := by
    intro ix hix
    rw [← columns_eq ix hix]
    rfl
  match b with
  | ⟨0, _⟩ => exact (h _ fun i => lit0_nonneg _).trans (by rw [lit0_eq]; rfl)
  | ⟨1, _⟩ => exact (h _ fun i => lit1_nonneg _).trans (by rw [lit1_eq]; rfl)
  | ⟨2, _⟩ => exact (h _ fun i => lit2_nonneg _).trans (by rw [lit2_eq]; rfl)
  | ⟨3, _⟩ => exact (h _ fun i => lit3_nonneg _).trans (by rw [lit3_eq]; rfl)

/-- If no branch has a zero row, its rows over their norms are real and of length at most one. -/
theorem exists_rows (hz) (x : Inputs Ideal) (hn : ∀ b, nonzero hz (columns (table b) x) = fun _ => 1#1) :
    ∃ X : Fin 4 → Fin 2048 → Fin 128 → ℝ, (∀ b, ShortRows (X b))
      ∧ ∀ b k d, normalize (columns (table b) x) (ix2 k d) = ((X b k d : ℝ) : EReal) := by
  choose X hX using fun b => short_rows hz (columns (table b) x) (hn b)
  exact ⟨X, fun b => (hX b).1, fun b => (hX b).2⟩

/-- The mean over a mask's pairs, averaged over the branches. -/
theorem mean_of_branches (mask : IVec Cert.ReferenceIdeal.S2048x2048 1) (P : Fin 2048 → Fin 2048 → Prop) [∀ i k, Decidable (P i k)]
    (hm : ∀ i k, mask (ix2 i k) = if P i k then 1#1 else 0#1) (s : Fin 4 → Square Ideal) (f : Fin 4 → Fin 2048 → Fin 2048 → ℝ)
    (hs : ∀ b i k, s b (ix2 i k) = ((f b i k : ℝ) : EReal)) (j) :
    meanOfFour (meanOver mask (s 0)) (meanOver mask (s 1)) (meanOver mask (s 2)) (meanOver mask (s 3)) j
      = (((∑ b, ∑ i, ∑ k, if P i k then f b i k else 0) / max (4 * (pairs P : ℝ)) 1 : ℝ) : EReal) := by
  rw [← mean_of_means P f]
  exact meanOfFour_real _ _ _ _ (fun b => (∑ i, ∑ k, if P i k then f b i k else 0) / max (pairs P : ℝ) 1)
    (meanOver_real mask P hm (s 0) (f 0) (hs 0)) (meanOver_real mask P hm (s 1) (f 1) (hs 1))
    (meanOver_real mask P hm (s 2) (f 2) (hs 2)) (meanOver_real mask P hm (s 3) (f 3) (hs 3)) j

variable (m : (ℓ : Loc Cert.KernelIdeal.nD Cert.KernelIdeal.τ Cert.KernelIdeal.sig) → Buf (Elt Ideal) ℓ) (c : Dev Cert.KernelIdeal.nD)
variable (X : Fin 4 → Fin 2048 → Fin 128 → ℝ) (x : Inputs Ideal) (t : Labels Ideal)

/-- The mean similarity of different rows with the same label, -/
theorem third (hx : m ((c : Thread Cert.KernelIdeal.nD Cert.KernelIdeal.τ).loc Cert.KernelIdeal.main_arg0) = x)
    (htm : m ((c : Thread Cert.KernelIdeal.nD Cert.KernelIdeal.τ).loc Cert.KernelIdeal.main_arg1) = t)
    (ht : ∀ i, (t (ix1 i)).toNat < 100) (hX : ∀ b k d, normalize (columns (table b) x) (ix2 k d) = ((X b k d : ℝ) : EReal)) :
    Cert.KernelIdeal.Block.res2 (F := Ideal) (Cert.KernelIdeal.Block.total m c) t = Cert.ReferenceIdeal.Branch.res2 x t := by
  subst hx htm
  have hf := fun b k d => (congrFun (feats_eq _ b) (ix2 k d)).trans (hX b k d)
  have hs := fun b => similar_dot _ (X b) (hX b)
  have hp := positive_apply (m ((c : Thread Cert.KernelIdeal.nD Cert.KernelIdeal.τ).loc Cert.KernelIdeal.main_arg1))
  funext j
  rw [Cert.KernelIdeal.Block.res2_eq _ _ ht _ (Cert.KernelIdeal.Block.total_2 m c X hf) j]
  exact (mean_of_branches _ _ hp (fun b => sims (table b) _) (fun b => dot (X b)) hs j).symm

/-- and of the rows with different labels. -/
theorem fourth (hx : m ((c : Thread Cert.KernelIdeal.nD Cert.KernelIdeal.τ).loc Cert.KernelIdeal.main_arg0) = x)
    (htm : m ((c : Thread Cert.KernelIdeal.nD Cert.KernelIdeal.τ).loc Cert.KernelIdeal.main_arg1) = t)
    (ht : ∀ i, (t (ix1 i)).toNat < 100) (hX : ∀ b k d, normalize (columns (table b) x) (ix2 k d) = ((X b k d : ℝ) : EReal)) :
    Cert.KernelIdeal.Block.res3 (F := Ideal) (Cert.KernelIdeal.Block.total m c) t = Cert.ReferenceIdeal.Branch.res3 x t := by
  subst hx htm
  have hf := fun b k d => (congrFun (feats_eq _ b) (ix2 k d)).trans (hX b k d)
  have hs := fun b => similar_dot _ (X b) (hX b)
  have hp := negative_apply (m ((c : Thread Cert.KernelIdeal.nD Cert.KernelIdeal.τ).loc Cert.KernelIdeal.main_arg1))
  funext j
  rw [Cert.KernelIdeal.Block.res3_eq _ _ ht _ (Cert.KernelIdeal.Block.total_3 m c X hf) j]
  refine Eq.trans ?_ (mean_of_branches _ _ hp (fun b => sims (table b) _) (fun b => dot (X b)) hs j).symm
  refine congrArg (fun r : ℝ => ((r / _ : ℝ) : EReal)) ?_
  refine Finset.sum_congr rfl fun b _ => Finset.sum_congr rfl fun i _ => Finset.sum_congr rfl fun k _ => ?_
  exact (ite_not _ _ _).symm

end Cert.Both

end
-- ==== Proof.Nearest.lean ====
/- What the reference's hundred greatest of a row are: the first hundred of an order of the row's places in which the
   entries do not grow. -/
module

public import proofs.«01_k».proof.Proof.Reference
public import Idealize.ShloMosaic.Lib.SortFacts
public import Idealize.ShloMosaic.Lib.Pointwise

@[expose] public section

noncomputable section

namespace Cert.ReferenceIdeal.Branch

open Idealize.ShloMosaic Idealize.ShloMosaic.TcCoe
open Cert.ReferenceIdeal Cert.ReferenceIdeal.Gen

/-! The greatest entries of a row, for any number of rows, entries and greatest ones. -/

section rows
variable {R C K : ℕ} {α : Type}

theorem along_row (i : Fin R) (k k' : Fin C) : Shape.Idx.along (s := ⟨2, ![R, C]⟩) (ix2 i k) (1 : Fin 2) k' = ix2 i k' := by
  funext a
  match a with
  | ⟨0, _⟩ => rfl
  | ⟨1, _⟩ => rfl

theorem slice_place (h : (⟨2, ![R, C]⟩ : Shape).Slices (fun _ => 0) ⟨2, ![R, K]⟩) (hK : K ≤ C) (v : (⟨2, ![R, C]⟩ : Shape).Idx → α)
    (i : Fin R) (j : Fin K) : extractStridedSlice ⟨2, ![R, K]⟩ (fun _ => 0) v h (ix2 i j) = v (ix2 i ⟨j.val, by omega⟩) := by
  unfold extractStridedSlice
  congr 1
  funext a
  match a with
  | ⟨0, _⟩ => exact Fin.ext (Nat.zero_add _)
  | ⟨1, _⟩ => exact Fin.ext (Nat.zero_add _)

theorem compare_row (M : (⟨2, ![R, C]⟩ : Shape).Idx → α) (gt : α → α → BitVec 1) (i : Fin R) (j : Fin C) :
    (fun k k' : Fin C => gt (M (Shape.Idx.along (s := ⟨2, ![R, C]⟩) (ix2 i j) (1 : Fin 2) k))
        (M (Shape.Idx.along (s := ⟨2, ![R, C]⟩) (ix2 i j) (1 : Fin 2) k')) == 1#1)
      = fun k k' => gt (M (ix2 i k)) (M (ix2 i k')) == 1#1 := by
  funext k k'
  rw [along_row, along_row]

theorem topK_value (hK : K ≤ C) (M : (⟨2, ![R, C]⟩ : Shape).Idx → α) (gt : α → α → BitVec 1)
    (h : (⟨2, ![R, C]⟩ : Shape).Slices (fun _ => 0) ⟨2, ![R, K]⟩) (i : Fin R) (j : Fin K) :
    (Host.topK ⟨2, ![R, K]⟩ 1 gt M h).1 (ix2 i j)
      = M (ix2 i (sortedFrom (fun k k' => gt (M (ix2 i k)) (M (ix2 i k')) == 1#1) ⟨j.val, by omega⟩)) := by
  unfold Host.topK
  dsimp only
  rw [slice_place h hK]
  unfold Host.sort2
  rw [dif_pos (show 1 < 2 from Nat.one_lt_two)]
  dsimp only
  exact (congrArg M (along_row i _ _)).trans
    (congrArg (fun f : Fin C → Fin C → Bool => M (ix2 i (sortedFrom f ⟨j.val, by omega⟩))) (compare_row M gt i _))

theorem topK_place (hK : K ≤ C) (M : (⟨2, ![R, C]⟩ : Shape).Idx → α) (gt : α → α → BitVec 1)
    (h : (⟨2, ![R, C]⟩ : Shape).Slices (fun _ => 0) ⟨2, ![R, K]⟩) (i : Fin R) (j : Fin K) :
    (Host.topK ⟨2, ![R, K]⟩ 1 gt M h).2 (ix2 i j)
      = BitVec.ofNat 32 (sortedFrom (fun k k' => gt (M (ix2 i k)) (M (ix2 i k')) == 1#1) ⟨j.val, by omega⟩).val := by
  unfold Host.topK
  dsimp only
  rw [slice_place h hK]
  unfold Host.sort2
  rw [dif_pos (show 1 < 2 from Nat.one_lt_two)]
  dsimp only
  exact congrArg (fun f : Fin C → Fin C → Bool => BitVec.ofNat 32 (sortedFrom f ⟨j.val, by omega⟩).val) (compare_row M gt i _)

theorem greater_iff (a b : EReal) : (FloatOps.cmpfTotal (F := Ideal) (φ := .f32) .gt a b == 1#1) = decide (b < a) := by
  show (BitVec.ofBool (decide (a > b)) == 1#1) = _
  by_cases h : b < a <;> simp [h]

theorem sorted_antitone (f : Fin C → EReal) (j j' : Fin C) (h : j ≤ j') :
    f (sortedFrom (fun k k' => FloatOps.cmpfTotal (F := Ideal) (φ := .f32) .gt (f k) (f k') == 1#1) j')
      ≤ f (sortedFrom (fun k k' => FloatOps.cmpfTotal (F := Ideal) (φ := .f32) .gt (f k) (f k') == 1#1) j) := by
  rcases h.lt_or_eq with h | rfl
  · have := sortedFrom_noInversion
      (fun k k' => FloatOps.cmpfTotal (F := Ideal) (φ := .f32) .gt (f k) (f k') == 1#1)
      (fun k k' => FloatOps.cmpfTotal (F := Ideal) (φ := .f32) .gt (f k) (f k') == 1#1)
      (by intro a b; simp only [greater_iff, decide_eq_true_eq, decide_eq_false_iff_not, not_lt]; exact le_of_lt)
      (by intro a b h; exact h)
      (by intro a b c; simp only [greater_iff, decide_eq_false_iff_not, not_lt]; intro h h'; exact h.trans h') j j' h
    simp only [greater_iff, decide_eq_false_iff_not, not_lt] at this ⊢
    exact this
  · exact le_rfl

end rows

/-- The order of a row's places by its entries, greater first. -/
def order (M : FVec Ideal S2048x2048 .f32) (i : Fin 2048) : Fin 2048 → Fin 2048 :=
  sortedFrom fun k k' => FloatOps.cmpfTotal (F := Ideal) (φ := .f32) .gt (M (ix2 i k)) (M (ix2 i k')) == 1#1

theorem order_injective (M : FVec Ideal S2048x2048 .f32) (i : Fin 2048) : Function.Injective (order M i) :=
  sortedFrom_injective _

theorem order_surjective (M : FVec Ideal S2048x2048 .f32) (i : Fin 2048) : Function.Surjective (order M i) :=
  sortedFrom_surjective _

/-- Along the order the entries do not grow. -/
theorem order_antitone (M : FVec Ideal S2048x2048 .f32) (i : Fin 2048) (j j' : Fin 2048) (h : j ≤ j') :
    M (ix2 i (order M i j')) ≤ M (ix2 i (order M i j)) :=
  sorted_antitone (fun k => M (ix2 i k)) j j' h

/-- The place among all the places of a place among the first hundred. -/
def upTo (j : Fin 100) : Fin 2048 := ⟨j.val, by omega⟩

theorem near_value (s : Square Ideal) (i : Fin 2048) (j : Fin 100) :
    (near s).1 (ix2 i j) = others s (ix2 i (order (others s) i (upTo j))) :=
  topK_value (by decide) (others s) _ _ i j

theorem near_place (s : Square Ideal) (i : Fin 2048) (j : Fin 100) :
    (near s).2 (ix2 i j) = BitVec.ofNat 32 (order (others s) i (upTo j)).val :=
  topK_place (by decide) (others s) _ _ i j

/-- The labels at places that are numbers below 2048. -/
theorem labelsAt_apply (t : Labels Ideal) (ix : IVec S2048x100 32) (i : Fin 2048) (j : Fin 100) (k : Fin 2048)
    (h : ix (ix2 i j) = BitVec.ofNat 32 k.val) : labelsAt t ix (ix2 i j) = t (ix1 k) := by
  have hk := k.isLt
  unfold labelsAt
  refine (ValueIdx.gather_take_apply (N := 2048) (R := 2048) (C := 100) (by decide) _ t _ (ix2 i j)).trans ?_
  congr 2
  have hw : (BitVec.ofNat 32 k.val).toInt = k.val := by
    rw [BitVec.toInt_eq_toNat_of_lt (by rw [BitVec.toNat_ofNat]; omega), BitVec.toNat_ofNat, Nat.mod_eq_of_lt (by omega)]
  have hn : ¬ (BitVec.ofNat 32 k.val).slt 0#32 := by
    rw [BitVec.slt_iff_toInt_lt, hw, BitVec.toInt_zero]
    omega
  have he : (select (cmpi .slt ix (broadcastInDim S2048x100 ![] bcast_S_S2048x100 (constantI S_ 32 0#32)))
        (addi ix (broadcastInDim S2048x100 ![] bcast_S_S2048x100 (constantI S_ 32 2048#32))) ix) (ix2 i j) = BitVec.ofNat 32 k.val := by
    show Scalar.select (IntOp.cmpi .slt (ix (ix2 i j)) 0#32) (IntOp.addi (ix (ix2 i j)) 2048#32) (ix (ix2 i j)) = _
    rw [h]
    simp [IntOp.cmpi, Scalar.select, hn]
  have ht : ∀ w : BitVec 32, w = BitVec.ofNat 32 k.val → min w.toInt.toNat (2048 - 1) = k.val := by
    rintro w rfl
    rw [hw]
    omega
  refine Fin.ext (ht _ (Eq.trans ?_ he))
  unfold broadcastInDim
  congr 1
  funext a
  match a with
  | ⟨0, _⟩ => rfl
  | ⟨1, _⟩ => rfl

end Cert.ReferenceIdeal.Branch

end
-- ==== Proof.Sorted.lean ====
/- The mathematics of one row whose other similarities are listed from the greatest down: what the first hundred of the
   list are, and its first. Real numbers only; nothing here is about a program. -/
module

public import proofs.«01_k».proof.Proof.Rows

@[expose] public section

noncomputable section

namespace Cert.Knn

open Finset

/-- The similarities of row `i`, with its own left out. -/
def off (X : Fin 2048 → Fin 128 → ℝ) (i k : Fin 2048) : EReal := if k = i then ⊥ else ((dot X i k : ℝ) : EReal)

/-- `σ` lists the rows from the one most similar to row `i` down. -/
structure Sorted (X : Fin 2048 → Fin 128 → ℝ) (i : Fin 2048) (σ : Fin 2048 → Fin 2048) : Prop where
  inj : Function.Injective σ
  surj : Function.Surjective σ
  down : ∀ j j', j ≤ j' → off X i (σ j') ≤ off X i (σ j)

variable {X : Fin 2048 → Fin 128 → ℝ} {i : Fin 2048} {σ : Fin 2048 → Fin 2048}

/-- The row itself is the last. -/
theorem Sorted.ne (h : Sorted X i σ) (j : Fin 2048) (hj : j.val < 2047) : σ j ≠ i := by
  intro e
  have h1 := h.down j ⟨j.val + 1, by omega⟩ (Fin.mk_le_mk.mpr (by omega))
  have h2 : σ ⟨j.val + 1, by omega⟩ ≠ i := by
    intro e'
    have := congrArg Fin.val (h.inj (e.trans e'.symm))
    simp at this
  unfold off at h1
  rw [if_pos e, if_neg h2, le_bot_iff] at h1
  exact EReal.coe_ne_bot _ h1

theorem Sorted.off_eq (h : Sorted X i σ) (j : Fin 2048) (hj : j.val < 2047) : off X i (σ j) = ((dot X i (σ j) : ℝ) : EReal) :=
  if_neg (h.ne j hj)

theorem Sorted.dot_le (h : Sorted X i σ) {j j' : Fin 2048} (hjj : j ≤ j') (hj : j'.val < 2047) : dot X i (σ j') ≤ dot X i (σ j) := by
  have h1 := h.down j j' hjj
  have hv : j.val ≤ j'.val := hjj
  rw [h.off_eq j (by omega), h.off_eq j' hj] at h1
  exact EReal.coe_le_coe_iff.mp h1

/-- The first of the list is at least any other. -/
theorem Sorted.first (h : Sorted X i σ) (k : Fin 2048) (hk : k ≠ i) : dot X i k ≤ dot X i (σ 0) := by
  obtain ⟨j, rfl⟩ := h.surj k
  have h1 := h.down 0 j (Fin.zero_le j)
  rw [h.off_eq 0 (by decide)] at h1
  unfold off at h1
  rw [if_neg hk] at h1
  exact EReal.coe_le_coe_iff.mp h1

/-- The greatest entry of a row of similarities is the first of its list. -/
theorem Sorted.best_eq (h : Sorted X i σ) (hX : ShortRows X) : best (masked X i) = dot X i (σ 0) := by
  have h0 : masked X i (σ 0) = dot X i (σ 0) := masked_ne (h.ne 0 (by decide))
  have hl := le_best (masked X i) (σ 0)
  rw [h0] at hl
  refine le_antisymm ?_ hl
  obtain ⟨k, hk⟩ := exists_best (masked X i)
  rw [← hk]
  by_cases hki : k = i
  · rw [hki, masked_self]; linarith [neg_one_le_dot hX i (σ 0)]
  · rw [masked_ne hki]; exact h.first k hki

/-- The `j`-th place, of the first hundred. -/
def among (j : Fin 100) : Fin 2048 := ⟨j.val, by omega⟩

/-- The first hundred of a list. -/
def hundred (σ : Fin 2048 → Fin 2048) : Finset (Fin 2048) := univ.image fun j : Fin 100 => σ (among j)

theorem among_injective : Function.Injective among := fun a b h =>
  Fin.ext (congrArg (fun x : Fin 2048 => x.val) h)

theorem sum_hundred (h : Sorted X i σ) (f : Fin 2048 → ℝ) : ∑ k ∈ hundred σ, f k = ∑ j, f (σ (among j)) := by
  unfold hundred
  exact sum_image fun a _ b _ e => among_injective (h.inj e)

/-- If exactly a hundred others are more than the hundredth less nine parts in 32768, the bisection finds the first
    hundred. -/
theorem Sorted.atLeast_eq (h : Sorted X i σ) (hX : ShortRows X)
    (hc : (univ.filter fun k => k ≠ i ∧ dot X i (σ (among 99)) - 9 / 32768 < dot X i k).card = 100) :
    atLeast (masked X i) ((lower (masked X i) : ℝ) / 32768) = hundred σ := by
  refine nearest hX i (hundred σ) ?_ ?_ (dot X i (σ (among 99))) ?_ hc
  · unfold hundred
    rw [card_image_of_injective _ (fun a b e => among_injective (h.inj e))]
    simp
  · unfold hundred
    intro hi
    obtain ⟨j, _, hj⟩ := mem_image.mp hi
    exact h.ne (among j) (by have := j.isLt; show j.val < 2047; omega) hj
  · unfold hundred
    intro k hk
    obtain ⟨j, _, rfl⟩ := mem_image.mp hk
    exact h.dot_le (Fin.mk_le_mk.mpr (by have := j.isLt; show j.val ≤ 99; omega)) (by decide)

end Cert.Knn

end
-- ==== Proof.Ranked.lean ====
/- A branch of the reference, its rows real and of length at most one: the list of a row's neighbours, and from it what the
   preconditions say of the row, its loss and whether its nearest row has its label. -/
module

public import proofs.«01_k».proof.Proof.Decoded
public import proofs.«01_k».proof.Proof.Nearest
public import proofs.«01_k».proof.Proof.Sorted
public import proofs.«01_k».proof.Proof.RowTerms

@[expose] public section

noncomputable section

namespace Cert.ReferenceIdeal.Branch

open Idealize.ShloMosaic Idealize.ShloMosaic.TcCoe
open Cert.ReferenceIdeal Cert.ReferenceIdeal.Gen Cert.Knn

set_option maxRecDepth 16384

variable {s : Square Ideal} {X : Fin 2048 → Fin 128 → ℝ}

theorem others_off (hs : ∀ i k, s (ix2 i k) = ((dot X i k : ℝ) : EReal)) (i k : Fin 2048) : others s (ix2 i k) = off X i k := by
  rw [others_apply, hs]; rfl

/-- The reference's list of a row's neighbours is sorted. -/
theorem sorted (hs : ∀ i k, s (ix2 i k) = ((dot X i k : ℝ) : EReal)) (i : Fin 2048) : Sorted X i (order (others s) i) where
  inj := order_injective _ i
  surj := order_surjective _ i
  down j j' h := by
    rw [← others_off hs, ← others_off hs]
    exact order_antitone (others s) i j j' h

/-- The `j`-th greatest similarity, -/
theorem near_real (hs : ∀ i k, s (ix2 i k) = ((dot X i k : ℝ) : EReal)) (i : Fin 2048) (j : Fin 100) :
    (near s).1 (ix2 i j) = ((dot X i (order (others s) i (among j)) : ℝ) : EReal) := by
  rw [near_value, others_off hs]
  exact (sorted hs i).off_eq (among j) (by have := j.isLt; show j.val < 2047; omega)

/-- and the label of its row. -/
theorem near_label (t : Labels Ideal) (i : Fin 2048) (j : Fin 100) :
    labelsAt t (near s).2 (ix2 i j) = t (ix1 (order (others s) i (among j))) :=
  labelsAt_apply t _ i j _ (near_place s i j)

/-- A row that passes the first test has exactly a hundred similarities above the hundredth, less nine parts in 32768. -/
theorem gap_card (hs : ∀ i k, s (ix2 i k) = ((dot X i k : ℝ) : EReal)) (h1 h2 h3 h4)
    (hg : gapped h1 h2 h3 h4 s = fun _ => 1#1) (i : Fin 2048) :
    (Finset.univ.filter fun k => k ≠ i ∧ dot X i (order (others s) i (among 99)) - 9 / 32768 < dot X i k).card = 100 := by
  have h5 := congrFun hg (ix1 i)
  have hv := near_real hs i 99
  have ho := others_off hs i
  unfold gapped at h5
  dsimp only [id] at h5
  generalize near s = N at h5 hv
  generalize order (others s) i (among 99) = k99 at hv ⊢
  generalize others s = M at h5 ho
  pointwise [] at h5
  have h6 := of_decide_eq_true (ofBool_eq_one h5)
  rw [hv, num_nine, num_100, sub_real] at h6
  have h7 : ∀ k, (if ((dot X i k99 - 9 / 32768 : ℝ) : EReal) < M (ix2 i k) then (1 : EReal) else 0)
      = ((if k ≠ i ∧ dot X i k99 - 9 / 32768 < dot X i k then 1 else 0 : ℝ) : EReal) := by
    intro k
    rw [ho k]
    unfold off
    by_cases hk : k = i
    · rw [if_pos hk, if_neg not_lt_bot, if_neg (fun e => e.1 hk)]
      rfl
    · rw [if_neg hk]
      by_cases hl : dot X i k99 - 9 / 32768 < dot X i k
      · rw [if_pos (EReal.coe_lt_coe_iff.mpr hl), if_pos ⟨hk, hl⟩]; rfl
      · rw [if_neg (fun e => hl (EReal.coe_lt_coe_iff.mp e)), if_neg (fun e => hl e.2)]; rfl
  rw [Finset.sum_congr rfl fun k _ => h7 k, ← coe_sum, EReal.coe_eq_coe_iff] at h6
  rw [Finset.card_filter]
  have h8 : (((∑ k, if k ≠ i ∧ dot X i k99 - 9 / 32768 < dot X i k then 1 else 0 : ℕ)) : ℝ) = (100 : ℕ) := by
    rw [Nat.cast_sum]
    refine (Finset.sum_congr rfl fun k _ => ?_).trans h6
    split <;> simp
  exact_mod_cast h8

/-- A row that passes the second test has its label at its nearest row or at none of its nearest rows. -/
theorem agree_hit (hX : ShortRows X) (hs : ∀ i k, s (ix2 i k) = ((dot X i k : ℝ) : EReal)) (t : Labels Ideal) (h3)
    (ha : agreed h3 s t = fun _ => 1#1) (i : Fin 2048) :
    rowHit (masked X i) (fun k => t (ix1 k) = t (ix1 i)) = if t (ix1 (order (others s) i (among 0))) = t (ix1 i) then 1 else 0 := by
  have hb : best (masked X i) = dot X i (order (others s) i (among 0)) := (sorted hs i).best_eq hX
  have hne : order (others s) i (among 0) ≠ i := (sorted hs i).ne 0 (by decide)
  have hv := near_real hs i 0
  have hl := near_label (s := s) t i 0
  have ho := others_off hs i
  have key : ∀ k, k ≠ i → dot X i k = best (masked X i) → t (ix1 k) = t (ix1 i) → t (ix1 (order (others s) i (among 0))) = t (ix1 i) := by
    intro k hki hk hsame
    have h5 := congrFun ha (ix2 i k)
    rw [hb] at hk
    unfold agreed at h5
    generalize order (others s) i (among 0) = k0 at *
    generalize labelsAt t (near s).2 = L at h5 hl
    generalize near s = N at h5 hv
    generalize others s = M at h5 ho
    pointwise [] at h5
    rw [ho k, hv, hl] at h5
    unfold off at h5
    rw [if_neg hki, hk, decide_eq_false (lt_irrefl _), hsame] at h5
    by_contra hcon
    simp only [IntOp.cmpi] at h5
    rw [beq_self_eq_true, beq_eq_false_iff_ne.mpr hcon] at h5
    exact absurd h5 (by decide)
  unfold rowHit
  by_cases h0 : t (ix1 (order (others s) i (among 0))) = t (ix1 i)
  · rw [if_pos h0, if_pos ⟨_, (masked_ne hne).trans hb.symm, h0⟩]
  · rw [if_neg h0, if_neg]
    rintro ⟨k, hk, hsame⟩
    by_cases hki : k = i
    · rw [hki, masked_self, hb] at hk
      linarith [neg_one_le_dot hX i (order (others s) i (among 0))]
    · rw [masked_ne hki] at hk
      exact h0 (key k hki hk hsame)

/-- A number of matches, at the head of the lists, over the number of rows. -/
theorem precision_real (hs : ∀ i k, s (ix2 i k) = ((dot X i k : ℝ) : EReal)) (t : Labels Ideal) (j) :
    precision (labelsAt t (near s).2) t j
      = (((∑ i, if t (ix1 (order (others s) i (among 0))) = t (ix1 i) then 1 else 0) / 2048 : ℝ) : EReal) := by
  have hl := fun i => near_label (s := s) t i 0
  generalize labelsAt t (near s).2 = L at hl
  have hu : ∀ i, (FloatOps.uitofp (F := Ideal) .f32 (IntOp.cmpi .eq (L (ix2 i 0)) (t (ix1 i))) : EReal)
      = ((if t (ix1 (order (others s) i (among 0))) = t (ix1 i) then 1 else 0 : ℝ) : EReal) := by
    intro i
    rw [hl i]
    have : ∀ b : BitVec 1, (FloatOps.uitofp (F := Ideal) .f32 b : EReal) = ((b.toNat : ℝ) : EReal) := fun _ => rfl
    rw [this]
    simp only [IntOp.cmpi]
    by_cases h : t (ix1 (order (others s) i (among 0))) = t (ix1 i)
    · rw [if_pos h, h, beq_self_eq_true, show (BitVec.ofBool true).toNat = 1 from rfl, Nat.cast_one]
    · rw [if_neg h, beq_eq_false_iff_ne.mpr h, show (BitVec.ofBool false).toNat = 0 from rfl, Nat.cast_zero]
  pointwise [precision]
  rw [Finset.sum_congr rfl fun i _ => hu i, num_2048, ← coe_sum, div_real _ (by norm_num : (2048 : ℝ) ≠ 0)]

/-- A weight: the exponential of forty times the similarity, less the greatest. -/
theorem weights_real (w : Near Ideal) (i : Fin 2048) (v : Fin 100 → ℝ) (hw : ∀ j, w (ix2 i j) = ((v j : ℝ) : EReal))
    (hv : ∀ j, v j ≤ v 0) (j : Fin 100) : weights (logits w) (ix2 i j) = ((Real.exp (40 * (v j - v 0)) : ℝ) : EReal) := by
  have h40 : ∀ j, Ideal.ofBits .f32 1109393408#32 * w (ix2 i j) = ((40 * v j : ℝ) : EReal) := by
    intro j
    rw [hw, EReal.coe_mul]
    exact congrArg (· * _) num_40
  have hmax : Finset.fold max (Ideal.ofBits .f32 4286578688#32) (fun x => Ideal.ofBits .f32 1109393408#32 * w (ix2 i x)) Finset.univ
      = ((40 * v 0 : ℝ) : EReal) := by
    rw [show Ideal.ofBits .f32 4286578688#32 = ⊥ from num_bot, funext h40, fold_max_real _ Finset.univ_nonempty, EReal.coe_eq_coe_iff]
    refine le_antisymm (Finset.sup'_le _ _ fun k _ => ?_) (Finset.le_sup' (fun j => 40 * v j) (Finset.mem_univ 0))
    linarith [hv k]
  pointwise [weights, logits]
  rw [hmax, h40, sub_real, Ideal.exp_coe, mul_sub]

/-- A row's loss is that of its hundred nearest rows. -/
theorem loss_real (hX : ShortRows X) (hs : ∀ i k, s (ix2 i k) = ((dot X i k : ℝ) : EReal)) (t : Labels Ideal) (i : Fin 2048)
    (same : Fin 2048 → Prop) [DecidablePred same] (hsame : ∀ k, same k ↔ t (ix1 k) = t (ix1 i))
    (hc : (Finset.univ.filter fun k => k ≠ i ∧ dot X i (order (others s) i (among 99)) - 9 / 32768 < dot X i k).card = 100) :
    lossOf s t (ix1 i) = rowLoss (atLeast (masked X i) ((lower (masked X i) : ℝ) / 32768)) (masked X i) (best (masked X i)) same := by
  have hS := sorted hs i
  have hw := weights_real (near s).1 i (fun j => dot X i (order (others s) i (among j))) (near_real hs i)
    (fun j => hS.dot_le (Fin.mk_le_mk.mpr (Nat.zero_le _)) (by have := j.isLt; show j.val < 2047; omega))
  have hl := near_label (s := s) t i
  rw [hS.atLeast_eq hX hc, hS.best_eq hX]
  unfold lossOf
  generalize labelsAt t (near s).2 = L at hl
  generalize weights (logits (near s).1) = W at hw
  have hm : ∀ j : Fin 100, masked X i (order (others s) i (among j)) = dot X i (order (others s) i (among j)) := fun j =>
    masked_ne (hS.ne _ (by have := j.isLt; show j.val < 2047; omega))
  unfold rowLoss
  rw [sum_hundred hS, sum_hundred hS]
  generalize order (others s) i = σ at *
  pointwise [losses]
  rw [sub_eq_add_neg, zero_add]
  refine congrArg (fun z => - Ideal.log z) (congrArg₂ Ideal.div (congrArg (· + _) ?_) (congrArg (· + _) ?_))
  · rw [coe_sum]
    refine Finset.sum_congr rfl fun j _ => ?_
    rw [hw, hl, hm]
    have h0 : (id (constant (F := Ideal) S_ .f32 0#32) ix0 : EReal) = ((0 : ℝ) : EReal) := by
      rw [EReal.coe_zero]; exact Ideal.ofBits_zero .f32
    rw [h0]
    by_cases h : t (ix1 (σ (among j))) = t (ix1 i)
    · rw [if_pos ((hsame _).mpr h), h]
      simp only [IntOp.cmpi]
      rw [beq_self_eq_true]
      rfl
    · rw [if_neg (fun e => h ((hsame _).mp e))]
      simp only [IntOp.cmpi]
      rw [beq_eq_false_iff_ne.mpr h]
      rfl
  · rw [coe_sum]
    refine Finset.sum_congr rfl fun j _ => ?_
    rw [hw, hm]
    rfl

/-- A sum over four runs laid end to end. -/
theorem sum_quarters {M : Type*} [AddCommMonoid M] (n : ℕ) (a b c d : Fin n → M) (f : Fin (n + n + n + n) → M)
    (ha : ∀ (k : Fin n) (h), f ⟨k.val, h⟩ = a k) (hb : ∀ (k : Fin n) (h), f ⟨n + k.val, h⟩ = b k)
    (hc : ∀ (k : Fin n) (h), f ⟨n + n + k.val, h⟩ = c k) (hd : ∀ (k : Fin n) (h), f ⟨n + n + n + k.val, h⟩ = d k) :
    ∑ x, f x = ∑ k, a k + ∑ k, b k + ∑ k, c k + ∑ k, d k := by
  rw [Fin.sum_univ_add, Fin.sum_univ_add, Fin.sum_univ_add]
  refine congrArg₂ (· + ·) (congrArg₂ (· + ·) (congrArg₂ (· + ·) ?_ ?_) ?_) ?_
  · exact Finset.sum_congr rfl fun k _ => ha k _
  · exact Finset.sum_congr rfl fun k _ => hb k _
  · exact Finset.sum_congr rfl fun k _ => hc k _
  · exact Finset.sum_congr rfl fun k _ => hd k _

/-- The mean over all rows of the four branches. -/
theorem meanOfRows_eq (l : Fin 4 → (⟨S2048, .f32⟩ : BufTy).Contents (Elt Ideal)) (j) :
    meanOfRows (l 0) (l 1) (l 2) (l 3) j = Ideal.div (∑ b, ∑ i, l b (ix1 i)) ((8192 : ℝ) : EReal) := by
  rw [← num_8192, Fin.sum_univ_four]
  generalize l 0 = a
  generalize l 1 = b
  generalize l 2 = c
  generalize l 3 = d
  pointwise [meanOfRows]
  refine congrArg (Ideal.div · _) ?_
  refine sum_quarters 2048 (fun i => a (ix1 i)) (fun i => b (ix1 i)) (fun i => c (ix1 i)) (fun i => d (ix1 i)) _ ?_ ?_ ?_ ?_
  · intro k h
    exact dif_pos k.isLt
  · intro k h
    refine (dif_neg (by show ¬ 2048 + k.val < 2048; omega)).trans ((dif_pos (by show 2048 + k.val - 2048 < 2048; omega)).trans ?_)
    exact congrArg (fun q => b (ix1 q)) (Fin.ext (by show 2048 + k.val - 2048 = k.val; omega))
  · intro k h
    refine (dif_neg (by show ¬ 2048 + 2048 + k.val < 2048; omega)).trans
      ((dif_neg (by show ¬ 2048 + 2048 + k.val - 2048 < 2048; omega)).trans
        ((dif_pos (by show 2048 + 2048 + k.val - 2048 - 2048 < 2048; omega)).trans ?_))
    exact congrArg (fun q => c (ix1 q)) (Fin.ext (by show 2048 + 2048 + k.val - 2048 - 2048 = k.val; omega))
  · intro k h
    refine (dif_neg (by show ¬ 2048 + 2048 + 2048 + k.val < 2048; omega)).trans
      ((dif_neg (by show ¬ 2048 + 2048 + 2048 + k.val - 2048 < 2048; omega)).trans
        ((dif_neg (by show ¬ 2048 + 2048 + 2048 + k.val - 2048 - 2048 < 2048; omega)).trans ?_))
    exact congrArg (fun q => d (ix1 q)) (Fin.ext (by show 2048 + 2048 + 2048 + k.val - 2048 - 2048 - 2048 = k.val; omega))

end Cert.ReferenceIdeal.Branch

end
-- ==== Proof.Rankings.lean ====
/- The kernel and the reference agree on the losses and on the nearest rows' labels, where the hundred nearest rows of
   every row stand apart from the rest. -/
module

public import proofs.«01_k».proof.Proof.Distances
public import proofs.«01_k».proof.Proof.Ranked

@[expose] public section

noncomputable section

namespace Cert.Both

open Idealize.ShloMosaic Idealize.ShloMosaic.TcCoe Idealize.SL.Sem
open Cert.Knn Cert.ReferenceIdeal.Branch

set_option maxRecDepth 16384

/-- Precisions averaged over the branches are one count over the rows of all branches. -/
theorem mean_of_precisions (p : Fin 4 → Fin 2048 → ℝ) : (∑ b, (∑ i, p b i) / 2048) / 4 = (∑ b, ∑ i, p b i) / 8192 := by
  rw [← Finset.sum_div, div_div]
  norm_num

variable (m : (ℓ : Loc Cert.KernelIdeal.nD Cert.KernelIdeal.τ Cert.KernelIdeal.sig) → Buf (Elt Ideal) ℓ) (c : Dev Cert.KernelIdeal.nD)
variable (X : Fin 4 → Fin 2048 → Fin 128 → ℝ) (x : Inputs Ideal) (t : Labels Ideal)

/-- The mean loss, -/
theorem first (hx : m ((c : Thread Cert.KernelIdeal.nD Cert.KernelIdeal.τ).loc Cert.KernelIdeal.main_arg0) = x)
    (htm : m ((c : Thread Cert.KernelIdeal.nD Cert.KernelIdeal.τ).loc Cert.KernelIdeal.main_arg1) = t)
    (hU : ∀ b, ShortRows (X b)) (hX : ∀ b k d, normalize (columns (table b) x) (ix2 k d) = ((X b k d : ℝ) : EReal))
    (h1 h2 h3 h4) (hg : ∀ b, gapped h1 h2 h3 h4 (sims (table b) x) = fun _ => 1#1) :
    Cert.KernelIdeal.Block.res0 (F := Ideal) (Cert.KernelIdeal.Block.total m c) = Cert.ReferenceIdeal.Branch.res0 x t := by
  subst hx htm
  have hf := fun b k d => (congrFun (feats_eq _ b) (ix2 k d)).trans (hX b k d)
  have hs := fun b => similar_dot _ (X b) (hX b)
  funext j
  rw [Cert.KernelIdeal.Block.res0_eq, Cert.KernelIdeal.Block.total_0 m c X hf]
  refine Eq.trans ?_ (meanOfRows_eq (fun b => lossOf (sims (table b) _) _) j).symm
  refine congrArg (fun z => Ideal.div z _) ?_
  refine Finset.sum_congr rfl fun b _ => Finset.sum_congr rfl fun i _ => ?_
  exact (loss_real (hU b) (hs b) _ i _ (fun k => Iff.rfl) (gap_card (hs b) h1 h2 h3 h4 (hg b) i)).symm

/-- and how many rows have their nearest row's label. -/
theorem second (hx : m ((c : Thread Cert.KernelIdeal.nD Cert.KernelIdeal.τ).loc Cert.KernelIdeal.main_arg0) = x)
    (htm : m ((c : Thread Cert.KernelIdeal.nD Cert.KernelIdeal.τ).loc Cert.KernelIdeal.main_arg1) = t)
    (hU : ∀ b, ShortRows (X b)) (hX : ∀ b k d, normalize (columns (table b) x) (ix2 k d) = ((X b k d : ℝ) : EReal))
    (h3) (ha : ∀ b, agreed h3 (sims (table b) x) t = fun _ => 1#1) :
    Cert.KernelIdeal.Block.res1 (F := Ideal) (Cert.KernelIdeal.Block.total m c) = Cert.ReferenceIdeal.Branch.res1 x t := by
  subst hx htm
  have hf := fun b k d => (congrFun (feats_eq _ b) (ix2 k d)).trans (hX b k d)
  have hs := fun b => similar_dot _ (X b) (hX b)
  funext j
  rw [Cert.KernelIdeal.Block.res1_eq, Cert.KernelIdeal.Block.total_1 m c X hf, div_real _ (by norm_num : (8192 : ℝ) ≠ 0)]
  have hp : ∀ b j, precision (labelsAt (m ((c : Thread Cert.KernelIdeal.nD Cert.KernelIdeal.τ).loc Cert.KernelIdeal.main_arg1))
        (near (sims (table b) (m ((c : Thread Cert.KernelIdeal.nD Cert.KernelIdeal.τ).loc Cert.KernelIdeal.main_arg0)))).2)
        (m ((c : Thread Cert.KernelIdeal.nD Cert.KernelIdeal.τ).loc Cert.KernelIdeal.main_arg1)) j
      = (((∑ i, rowHit (masked (X b) i) (Cert.KernelIdeal.Block.same
        (m ((c : Thread Cert.KernelIdeal.nD Cert.KernelIdeal.τ).loc Cert.KernelIdeal.main_arg1)) i)) / 2048 : ℝ) : EReal) := by
    intro b j
    refine (precision_real (hs b) _ j).trans (congrArg (fun z : ℝ => ((z / 2048 : ℝ) : EReal)) ?_)
    exact Finset.sum_congr rfl fun i _ => (agree_hit (hU b) (hs b) _ h3 (ha b) i).symm
  rw [← mean_of_precisions]
  exact (meanOfFour_real _ _ _ _ (fun b => (∑ i, rowHit (masked (X b) i) (Cert.KernelIdeal.Block.same
    (m ((c : Thread Cert.KernelIdeal.nD Cert.KernelIdeal.τ).loc Cert.KernelIdeal.main_arg1)) i)) / 2048) (hp 0) (hp 1) (hp 2) (hp 3) j).symm

end Cert.Both

end
-- ==== Proof.Claims.lean ====
/- The kernel against the reference, under each of the two preconditions. -/
module

public import proofs.«01_k».proof.Defs
public import proofs.«01_k».proof.Proof.Gen.Pre_regular
public import proofs.«01_k».proof.Proof.Gen.Pre_separated
public import proofs.«01_k».proof.Proof.Gen.On_distances
public import proofs.«01_k».proof.Proof.Rankings
public import Idealize.ShloMosaic.Adequacy

@[expose] public section

noncomputable section

namespace Cert.Both

open Idealize.ShloMosaic Idealize.ShloMosaic.TcCoe Idealize.SL.Sem
open Cert.Knn Cert.ReferenceIdeal.Branch

set_option maxRecDepth 16384

/-- The reference ends with its arguments unchanged and every counter at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2.2.2.2,
    Idealize.ShloMosaic.sem_eq_zero_of_no_sems (by decide) r.2⟩) (Cert.ReferenceIdeal.Branch.run (F := Ideal) m g)

/-- What the first precondition says of a device's arguments. -/
theorem of_regular (x : Inputs Ideal) (t : Labels Ideal)
    (h : (Cert.Pre_regular.fn (F := Ideal) x t).1 = (fun _ => 1#1) ∧ (Cert.Pre_regular.fn (F := Ideal) x t).2.1 = (fun _ => 1#1)
      ∧ (Cert.Pre_regular.fn (F := Ideal) x t).2.2.1 = (fun _ => 1#1) ∧ (Cert.Pre_regular.fn (F := Ideal) x t).2.2.2.1 = (fun _ => 1#1)
      ∧ (Cert.Pre_regular.fn (F := Ideal) x t).2.2.2.2 = (fun _ => 1#1)) :
    (∀ i, (t (ix1 i)).toNat < 100) ∧ ∃ X : Fin 4 → Fin 2048 → Fin 128 → ℝ, (∀ b, ShortRows (X b))
      ∧ ∀ b k d, normalize (columns (table b) x) (ix2 k d) = ((X b k d : ℝ) : EReal) := by
  rw [regular_eq x t] at h
  obtain ⟨hl, h0, h1, h2, h3⟩ := h
  refine ⟨label_lt t hl, exists_rows Cert.Pre_regular.Facts.bcast_S_S2048x1 x fun b => ?_⟩
  match b with
  | ⟨0, _⟩ => exact h0
  | ⟨1, _⟩ => exact h1
  | ⟨2, _⟩ => exact h2
  | ⟨3, _⟩ => exact h3

/-- For labels that are class numbers, and no zero rows, the kernel's last two results are the
    reference's. -/
theorem algebraic_regular : Cert.algebraic_KernelIdeal_ReferenceIdeal_on_distances_pre_regular := by
  intro m g m' g' hpre hargs
  refine ⟨fun c => Cert.KernelIdeal.Block.res0 (F := Ideal) (Cert.KernelIdeal.Block.total m c),
    fun c => Cert.KernelIdeal.Block.res1 (F := Ideal) (Cert.KernelIdeal.Block.total m c),
    fun c => Cert.KernelIdeal.Block.res2 (F := Ideal) (Cert.KernelIdeal.Block.total m c) (m ((c.tc : Thread Cert.KernelIdeal.nD Cert.KernelIdeal.τ).loc Cert.KernelIdeal.main_arg1)),
    fun c => Cert.KernelIdeal.Block.res3 (F := Ideal) (Cert.KernelIdeal.Block.total m c) (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Block.run (F := Ideal) m g)
    obtain ⟨e0, e1, e2, e3, a0, a1⟩ := h c
    exact ⟨fun i _ => congrFun e0 i, fun i _ => congrFun e1 i, fun i _ => congrFun e2 i, fun i _ => congrFun e3 i, a0, a1⟩
  · refine (θ_run Cert.ReferenceIdeal.defs _ _).mono (fun r h c => ?_) (Cert.ReferenceIdeal.Branch.run (F := Ideal) m' g')
    obtain ⟨e0, e1, e2, e3, a0, a1⟩ := h c
    obtain ⟨ht, X, hU, hX⟩ := of_regular _ _ (hpre c)
    obtain ⟨hx, hy⟩ := hargs c
    rw [hx, hy] at e2 e3
    exact ⟨fun i hi => absurd hi (by show ¬ (0#1 : BitVec 1) = 1#1; decide), fun i hi => absurd hi (by show ¬ (0#1 : BitVec 1) = 1#1; decide),
      fun i _ => congrFun (e2.trans (third m c X _ _ rfl rfl ht hX).symm) i,
      fun i _ => congrFun (e3.trans (fourth m c X _ _ rfl rfl ht hX).symm) i, a0, a1⟩

/-- What the second precondition says of a device's arguments. -/
theorem of_separated (x : Inputs Ideal) (t : Labels Ideal)
    (h : (Cert.Pre_separated.fn (F := Ideal) x t).1 = (fun _ => 1#1)
      ∧ (Cert.Pre_separated.fn (F := Ideal) x t).2.1 = (fun _ => 1#1)
      ∧ (Cert.Pre_separated.fn (F := Ideal) x t).2.2.1 = (fun _ => 1#1)
      ∧ (Cert.Pre_separated.fn (F := Ideal) x t).2.2.2.1 = (fun _ => 1#1)
      ∧ (Cert.Pre_separated.fn (F := Ideal) x t).2.2.2.2.1 = (fun _ => 1#1)
      ∧ (Cert.Pre_separated.fn (F := Ideal) x t).2.2.2.2.2.1 = (fun _ => 1#1)
      ∧ (Cert.Pre_separated.fn (F := Ideal) x t).2.2.2.2.2.2.1 = (fun _ => 1#1)
      ∧ (Cert.Pre_separated.fn (F := Ideal) x t).2.2.2.2.2.2.2.1 = (fun _ => 1#1)
      ∧ (Cert.Pre_separated.fn (F := Ideal) x t).2.2.2.2.2.2.2.2.1 = (fun _ => 1#1)
      ∧ (Cert.Pre_separated.fn (F := Ideal) x t).2.2.2.2.2.2.2.2.2.1 = (fun _ => 1#1)
      ∧ (Cert.Pre_separated.fn (F := Ideal) x t).2.2.2.2.2.2.2.2.2.2.1 = (fun _ => 1#1)
      ∧ (Cert.Pre_separated.fn (F := Ideal) x t).2.2.2.2.2.2.2.2.2.2.2.1 = (fun _ => 1#1)
      ∧ (Cert.Pre_separated.fn (F := Ideal) x t).2.2.2.2.2.2.2.2.2.2.2.2 = (fun _ => 1#1)) :
    ((∀ i, (t (ix1 i)).toNat < 100) ∧ ∃ X : Fin 4 → Fin 2048 → Fin 128 → ℝ, (∀ b, ShortRows (X b))
      ∧ ∀ b k d, normalize (columns (table b) x) (ix2 k d) = ((X b k d : ℝ) : EReal))
    ∧ (∀ b, gapped Cert.Pre_separated.Facts.bcast_S_S2048x1 Cert.Pre_separated.Facts.slices_S2048x100_S2048x1_0_99
        Cert.Pre_separated.Facts.bcast_S2048x1_S2048x2048_0_1 Cert.Pre_separated.Facts.reducesTo_S2048x2048_S2048_d1 (sims (table b) x) = fun _ => 1#1)
    ∧ ∀ b, agreed Cert.Pre_separated.Facts.bcast_S2048x1_S2048x2048_0_1 (sims (table b) x) t = fun _ => 1#1 := by
  rw [separated_eq x t] at h
  obtain ⟨hl, h0, h1, h2, h3, g0, a0, g1, a1, g2, a2, g3, a3⟩ := h
  refine ⟨⟨label_lt t hl, exists_rows Cert.Pre_separated.Facts.bcast_S_S2048x1 x fun b => ?_⟩, fun b => ?_, fun b => ?_⟩
  · match b with
    | ⟨0, _⟩ => exact h0
    | ⟨1, _⟩ => exact h1
    | ⟨2, _⟩ => exact h2
    | ⟨3, _⟩ => exact h3
  · match b with
    | ⟨0, _⟩ => exact g0
    | ⟨1, _⟩ => exact g1
    | ⟨2, _⟩ => exact g2
    | ⟨3, _⟩ => exact g3
  · match b with
    | ⟨0, _⟩ => exact a0
    | ⟨1, _⟩ => exact a1
    | ⟨2, _⟩ => exact a2
    | ⟨3, _⟩ => exact a3

/-- Where moreover the hundred nearest rows of every row stand apart from the rest, and its nearest rows agree on having
    its label, all four results are the reference's. -/
theorem algebraic_separated : Cert.algebraic_KernelIdeal_ReferenceIdeal_pre_separated := by
  intro m g m' g' hpre hargs
  refine ⟨fun c => Cert.KernelIdeal.Block.res0 (F := Ideal) (Cert.KernelIdeal.Block.total m c),
    fun c => Cert.KernelIdeal.Block.res1 (F := Ideal) (Cert.KernelIdeal.Block.total m c),
    fun c => Cert.KernelIdeal.Block.res2 (F := Ideal) (Cert.KernelIdeal.Block.total m c) (m ((c.tc : Thread Cert.KernelIdeal.nD Cert.KernelIdeal.τ).loc Cert.KernelIdeal.main_arg1)),
    fun c => Cert.KernelIdeal.Block.res3 (F := Ideal) (Cert.KernelIdeal.Block.total m c) (m ((c.tc : Thread Cert.KernelIdeal.nD Cert.KernelIdeal.τ).loc Cert.KernelIdeal.main_arg1)),
    Cert.KernelIdeal.Block.run (F := Ideal) m g, ?_⟩
  refine (θ_run Cert.ReferenceIdeal.defs _ _).mono (fun r h c => ?_) (Cert.ReferenceIdeal.Branch.run (F := Ideal) m' g')
  obtain ⟨e0, e1, e2, e3, a0, a1⟩ := h c
  obtain ⟨⟨ht, X, hU, hX⟩, hg, ha⟩ := of_separated _ _ (hpre c)
  obtain ⟨hx, hy⟩ := hargs c
  rw [hx, hy] at e0 e1 e2 e3
  exact ⟨e0.trans (first m c X _ _ rfl rfl hU hX _ _ _ _ hg).symm, e1.trans (second m c X _ _ rfl rfl hU hX _ ha).symm,
    e2.trans (third m c X _ _ rfl rfl ht hX).symm, e3.trans (fourth m c X _ _ rfl rfl ht hX).symm, a0, a1⟩

end Cert.Both

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_regular
public import proofs.«01_k».proof.Proof.Gen.Pre_separated
public import proofs.«01_k».proof.Proof.Gen.On_distances
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- All the claims together. -/
theorem claim : Cert.Claim := ⟨Cert.Kernel.Gen.facts, Cert.KernelIdeal.Gen.facts, Cert.ReferenceIdeal.Gen.facts, Cert.Pre_regular.Gen.facts, Cert.Pre_separated.Gen.facts, Cert.On_distances.Gen.facts,
  fun m g _ => Cert.Kernel.Gen.frame m g,
  fun m g _ => Cert.KernelIdeal.Gen.frame m g,
  fun m g _ => Cert.KernelIdeal.Gen.frame m g,
  fun m g _ => Cert.KernelIdeal.Gen.frame m g,
  fun m g _ => Cert.Both.frame_reference m g,
  fun m g _ => Cert.Both.frame_reference m g,
  fun m g _ => Cert.Both.frame_reference m g,
  trivial, Cert.Both.algebraic_regular, Cert.Both.algebraic_separated⟩

end Cert.Proof

end
